-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnIdeal_all_finite [hPre_all_finite : Cert.Pre_all_finite.Facts] (m : (ℓ : Loc Cert.OutLnIdeal.nD Cert.OutLnIdeal.τ Cert.OutLnIdeal.sig) → Buf (Elt Ideal) ℓ) : Prop :=
  ∀ c : Dev Cert.OutLnIdeal.nD,
    (Cert.Pre_all_finite.fn (F := Ideal) (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (m ((c.tc : Thread Cert.OutLnIdeal.nD Cert.OutLnIdeal.τ).loc Cert.OutLnIdeal.main_arg2)) (m ((c.tc : Thread Cert.OutLnIdeal.nD Cert.OutLnIdeal.τ).loc Cert.OutLnIdeal.main_arg3)) (m ((c.tc : Thread Cert.OutLnIdeal.nD Cert.OutLnIdeal.τ).loc Cert.OutLnIdeal.main_arg4)) (m ((c.tc : Thread Cert.OutLnIdeal.nD Cert.OutLnIdeal.τ).loc Cert.OutLnIdeal.main_arg5)) (m ((c.tc : Thread Cert.OutLnIdeal.nD Cert.OutLnIdeal.τ).loc Cert.OutLnIdeal.main_arg6))) = (fun _ => 1#1)

def Pre_OutLnReferenceIdeal (m : (ℓ : Loc Cert.OutLnReferenceIdeal.nD Cert.OutLnReferenceIdeal.τ Cert.OutLnReferenceIdeal.sig) → Buf (Elt Ideal) ℓ) : Prop :=
  True

def Pre_OutLnReferenceIdeal_all_finite [hPre_all_finite : Cert.Pre_all_finite.Facts] (m : (ℓ : Loc Cert.OutLnReferenceIdeal.nD Cert.OutLnReferenceIdeal.τ Cert.OutLnReferenceIdeal.sig) → Buf (Elt Ideal) ℓ) : Prop :=
  ∀ c : Dev Cert.OutLnReferenceIdeal.nD,
    (Cert.Pre_all_finite.fn (F := Ideal) (m ((c.tc : Thread Cert.OutLnReferenceIdeal.nD Cert.OutLnReferenceIdeal.τ).loc Cert.OutLnReferenceIdeal.main_arg0)) (m ((c.tc : Thread Cert.OutLnReferenceIdeal.nD Cert.OutLnReferenceIdeal.τ).loc Cert.OutLnReferenceIdeal.main_arg1)) (m ((c.tc : Thread Cert.OutLnReferenceIdeal.nD Cert.OutLnReferenceIdeal.τ).loc Cert.OutLnReferenceIdeal.main_arg2)) (m ((c.tc : Thread Cert.OutLnReferenceIdeal.nD Cert.OutLnReferenceIdeal.τ).loc Cert.OutLnReferenceIdeal.main_arg3)) (m ((c.tc : Thread Cert.OutLnReferenceIdeal.nD Cert.OutLnReferenceIdeal.τ).loc Cert.OutLnReferenceIdeal.main_arg4)) (m ((c.tc : Thread Cert.OutLnReferenceIdeal.nD Cert.OutLnReferenceIdeal.τ).loc Cert.OutLnReferenceIdeal.main_arg5)) (m ((c.tc : Thread Cert.OutLnReferenceIdeal.nD Cert.OutLnReferenceIdeal.τ).loc Cert.OutLnReferenceIdeal.main_arg6))) = (fun _ => 1#1)

def Pre_EvenMix (m : (ℓ : Loc Cert.EvenMix.nD Cert.EvenMix.τ Cert.EvenMix.sig) → Buf (Elt Bits) ℓ) : Prop :=
  True

def Pre_EvenMixIdeal (m : (ℓ : Loc Cert.EvenMixIdeal.nD Cert.EvenMixIdeal.τ Cert.EvenMixIdeal.sig) → Buf (Elt Ideal) ℓ) : Prop :=
  True

def Pre_EvenMixReferenceIdeal (m : (ℓ : Loc Cert.EvenMixReferenceIdeal.nD Cert.EvenMixReferenceIdeal.τ Cert.EvenMixReferenceIdeal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5)
      ∧ r.2.mem ((c.tc : Thread Cert.OutLn.nD Cert.OutLn.τ).loc Cert.OutLn.main_arg6) = m ((c.tc : Thread Cert.OutLn.nD Cert.OutLn.τ).loc Cert.OutLn.main_arg6))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ r.2.sem = fun _ => 0)

def quiescent_OutLnIdeal_pre_all_finite [hOutLnIdeal : Cert.OutLnIdeal.Facts] [hPre_all_finite : Cert.Pre_all_finite.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal_all_finite m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ r.2.sem = fun _ => 0)

def quiescent_OutLnReferenceIdeal [hOutLnReferenceIdeal : Cert.OutLnReferenceIdeal.Facts] : Prop :=
  ∀ (m : (ℓ : Loc Cert.OutLnReferenceIdeal.nD Cert.OutLnReferenceIdeal.τ Cert.OutLnReferenceIdeal.sig) → Buf (Elt Ideal) ℓ) (g : Dev Cert.OutLnReferenceIdeal.nD → PrngReg), Pre_OutLnReferenceIdeal m →
    θ_run (Cert.OutLnReferenceIdeal.defs (F := Ideal)) (onTc (τ := Cert.OutLnReferenceIdeal.τ) (Cert.OutLnReferenceIdeal.main (F := Ideal))) ⟨m, fun _ => 0, g⟩ (fun r => (∀ c : Dev Cert.OutLnReferenceIdeal.nD,
      r.2.mem ((c.tc : Thread Cert.OutLnReferenceIdeal.nD Cert.OutLnReferenceIdeal.τ).loc Cert.OutLnReferenceIdeal.main_arg0) = m ((c.tc : Thread Cert.OutLnReferenceIdeal.nD Cert.OutLnReferenceIdeal.τ).loc Cert.OutLnReferenceIdeal.main_arg0)
      ∧ r.2.mem ((c.tc : Thread Cert.OutLnReferenceIdeal.nD Cert.OutLnReferenceIdeal.τ).loc Cert.OutLnReferenceIdeal.main_arg1) = m ((c.tc : Thread Cert.OutLnReferenceIdeal.nD Cert.OutLnReferenceIdeal.τ).loc Cert.OutLnReferenceIdeal.main_arg1)
      ∧ r.2.mem ((c.tc : Thread Cert.OutLnReferenceIdeal.nD Cert.OutLnReferenceIdeal.τ).loc Cert.OutLnReferenceIdeal.main_arg2) = m ((c.tc : Thread Cert.OutLnReferenceIdeal.nD Cert.OutLnReferenceIdeal.τ).loc Cert.OutLnReferenceIdeal.main_arg2)
      ∧ r.2.mem ((c.tc : Thread Cert.OutLnReferenceIdeal.nD Cert.OutLnReferenceIdeal.τ).loc Cert.OutLnReferenceIdeal.main_arg3) = m ((c.tc : Thread Cert.OutLnReferenceIdeal.nD Cert.OutLnReferenceIdeal.τ).loc Cert.OutLnReferenceIdeal.main_arg3)
      ∧ r.2.mem ((c.tc : Thread Cert.OutLnReferenceIdeal.nD Cert.OutLnReferenceIdeal.τ).loc Cert.OutLnReferenceIdeal.main_arg4) = m ((c.tc : Thread Cert.OutLnReferenceIdeal.nD Cert.OutLnReferenceIdeal.τ).loc Cert.OutLnReferenceIdeal.main_arg4)
      ∧ r.2.mem ((c.tc : Thread Cert.OutLnReferenceIdeal.nD Cert.OutLnReferenceIdeal.τ).loc Cert.OutLnReferenceIdeal.main_arg5) = m ((c.tc : Thread Cert.OutLnReferenceIdeal.nD Cert.OutLnReferenceIdeal.τ).loc Cert.OutLnReferenceIdeal.main_arg5)
      ∧ r.2.mem ((c.tc : Thread Cert.OutLnReferenceIdeal.nD Cert.OutLnReferenceIdeal.τ).loc Cert.OutLnReferenceIdeal.main_arg6) = m ((c.tc : Thread Cert.OutLnReferenceIdeal.nD Cert.OutLnReferenceIdeal.τ).loc Cert.OutLnReferenceIdeal.main_arg6))
      ∧ r.2.sem = fun _ => 0)

def quiescent_OutLnReferenceIdeal_pre_all_finite [hOutLnReferenceIdeal : Cert.OutLnReferenceIdeal.Facts] [hPre_all_finite : Cert.Pre_all_finite.Facts] : Prop :=
  ∀ (m : (ℓ : Loc Cert.OutLnReferenceIdeal.nD Cert.OutLnReferenceIdeal.τ Cert.OutLnReferenceIdeal.sig) → Buf (Elt Ideal) ℓ) (g : Dev Cert.OutLnReferenceIdeal.nD → PrngReg), Pre_OutLnReferenceIdeal_all_finite m →
    θ_run (Cert.OutLnReferenceIdeal.defs (F := Ideal)) (onTc (τ := Cert.OutLnReferenceIdeal.τ) (Cert.OutLnReferenceIdeal.main (F := Ideal))) ⟨m, fun _ => 0, g⟩ (fun r => (∀ c : Dev Cert.OutLnReferenceIdeal.nD,
      r.2.mem ((c.tc : Thread Cert.OutLnReferenceIdeal.nD Cert.OutLnReferenceIdeal.τ).loc Cert.OutLnReferenceIdeal.main_arg0) = m ((c.tc : Thread Cert.OutLnReferenceIdeal.nD Cert.OutLnReferenceIdeal.τ).loc Cert.OutLnReferenceIdeal.main_arg0)
      ∧ r.2.mem ((c.tc : Thread Cert.OutLnReferenceIdeal.nD Cert.OutLnReferenceIdeal.τ).loc Cert.OutLnReferenceIdeal.main_arg1) = m ((c.tc : Thread Cert.OutLnReferenceIdeal.nD Cert.OutLnReferenceIdeal.τ).loc Cert.OutLnReferenceIdeal.main_arg1)
      ∧ r.2.mem ((c.tc : Thread Cert.OutLnReferenceIdeal.nD Cert.OutLnReferenceIdeal.τ).loc Cert.OutLnReferenceIdeal.main_arg2) = m ((c.tc : Thread Cert.OutLnReferenceIdeal.nD Cert.OutLnReferenceIdeal.τ).loc Cert.OutLnReferenceIdeal.main_arg2)
      ∧ r.2.mem ((c.tc : Thread Cert.OutLnReferenceIdeal.nD Cert.OutLnReferenceIdeal.τ).loc Cert.OutLnReferenceIdeal.main_arg3) = m ((c.tc : Thread Cert.OutLnReferenceIdeal.nD Cert.OutLnReferenceIdeal.τ).loc Cert.OutLnReferenceIdeal.main_arg3)
      ∧ r.2.mem ((c.tc : Thread Cert.OutLnReferenceIdeal.nD Cert.OutLnReferenceIdeal.τ).loc Cert.OutLnReferenceIdeal.main_arg4) = m ((c.tc : Thread Cert.OutLnReferenceIdeal.nD Cert.OutLnReferenceIdeal.τ).loc Cert.OutLnReferenceIdeal.main_arg4)
      ∧ r.2.mem ((c.tc : Thread Cert.OutLnReferenceIdeal.nD Cert.OutLnReferenceIdeal.τ).loc Cert.OutLnReferenceIdeal.main_arg5) = m ((c.tc : Thread Cert.OutLnReferenceIdeal.nD Cert.OutLnReferenceIdeal.τ).loc Cert.OutLnReferenceIdeal.main_arg5)
      ∧ r.2.mem ((c.tc : Thread Cert.OutLnReferenceIdeal.nD Cert.OutLnReferenceIdeal.τ).loc Cert.OutLnReferenceIdeal.main_arg6) = m ((c.tc : Thread Cert.OutLnReferenceIdeal.nD Cert.OutLnReferenceIdeal.τ).loc Cert.OutLnReferenceIdeal.main_arg6))
      ∧ r.2.sem = fun _ => 0)

def quiescent_EvenMix [hEvenMix : Cert.EvenMix.Facts] : Prop :=
  ∀ (m : (ℓ : Loc Cert.EvenMix.nD Cert.EvenMix.τ Cert.EvenMix.sig) → Buf (Elt Bits) ℓ) (g : Dev Cert.EvenMix.nD → PrngReg), Pre_EvenMix m →
    θ_run (Cert.EvenMix.defs (F := Bits)) (onTc (τ := Cert.EvenMix.τ) (Cert.EvenMix.main (F := Bits))) ⟨m, fun _ => 0, g⟩ (fun r => (∀ c : Dev Cert.EvenMix.nD,
      r.2.mem ((c.tc : Thread Cert.EvenMix.nD Cert.EvenMix.τ).loc Cert.EvenMix.main_arg0) = m ((c.tc : Thread Cert.EvenMix.nD Cert.EvenMix.τ).loc Cert.EvenMix.main_arg0)
      ∧ r.2.mem ((c.tc : Thread Cert.EvenMix.nD Cert.EvenMix.τ).loc Cert.EvenMix.main_arg1) = m ((c.tc : Thread Cert.EvenMix.nD Cert.EvenMix.τ).loc Cert.EvenMix.main_arg1)
      ∧ r.2.mem ((c.tc : Thread Cert.EvenMix.nD Cert.EvenMix.τ).loc Cert.EvenMix.main_arg2) = m ((c.tc : Thread Cert.EvenMix.nD Cert.EvenMix.τ).loc Cert.EvenMix.main_arg2)
      ∧ r.2.mem ((c.tc : Thread Cert.EvenMix.nD Cert.EvenMix.τ).loc Cert.EvenMix.main_arg3) = m ((c.tc : Thread Cert.EvenMix.nD Cert.EvenMix.τ).loc Cert.EvenMix.main_arg3)
      ∧ r.2.mem ((c.tc : Thread Cert.EvenMix.nD Cert.EvenMix.τ).loc Cert.EvenMix.main_arg4) = m ((c.tc : Thread Cert.EvenMix.nD Cert.EvenMix.τ).loc Cert.EvenMix.main_arg4))
      ∧ r.2.sem = fun _ => 0)

def quiescent_EvenMixIdeal [hEvenMixIdeal : Cert.EvenMixIdeal.Facts] : Prop :=
  ∀ (m : (ℓ : Loc Cert.EvenMixIdeal.nD Cert.EvenMixIdeal.τ Cert.EvenMixIdeal.sig) → Buf (Elt Ideal) ℓ) (g : Dev Cert.EvenMixIdeal.nD → PrngReg), Pre_EvenMixIdeal m →
    θ_run (Cert.EvenMixIdeal.defs (F := Ideal)) (onTc (τ := Cert.EvenMixIdeal.τ) (Cert.EvenMixIdeal.main (F := Ideal))) ⟨m, fun _ => 0, g⟩ (fun r => (∀ c : Dev Cert.EvenMixIdeal.nD,
      r.2.mem ((c.tc : Thread Cert.EvenMixIdeal.nD Cert.EvenMixIdeal.τ).loc Cert.EvenMixIdeal.main_arg0) = m ((c.tc : Thread Cert.EvenMixIdeal.nD Cert.EvenMixIdeal.τ).loc Cert.EvenMixIdeal.main_arg0)
      ∧ r.2.mem ((c.tc : Thread Cert.EvenMixIdeal.nD Cert.EvenMixIdeal.τ).loc Cert.EvenMixIdeal.main_arg1) = m ((c.tc : Thread Cert.EvenMixIdeal.nD Cert.EvenMixIdeal.τ).loc Cert.EvenMixIdeal.main_arg1)
      ∧ r.2.mem ((c.tc : Thread Cert.EvenMixIdeal.nD Cert.EvenMixIdeal.τ).loc Cert.EvenMixIdeal.main_arg2) = m ((c.tc : Thread Cert.EvenMixIdeal.nD Cert.EvenMixIdeal.τ).loc Cert.EvenMixIdeal.main_arg2)
      ∧ r.2.mem ((c.tc : Thread Cert.EvenMixIdeal.nD Cert.EvenMixIdeal.τ).loc Cert.EvenMixIdeal.main_arg3) = m ((c.tc : Thread Cert.EvenMixIdeal.nD Cert.EvenMixIdeal.τ).loc Cert.EvenMixIdeal.main_arg3)
      ∧ r.2.mem ((c.tc : Thread Cert.EvenMixIdeal.nD Cert.EvenMixIdeal.τ).loc Cert.EvenMixIdeal.main_arg4) = m ((c.tc : Thread Cert.EvenMixIdeal.nD Cert.EvenMixIdeal.τ).loc Cert.EvenMixIdeal.main_arg4))
      ∧ r.2.sem = fun _ => 0)

def quiescent_EvenMixReferenceIdeal [hEvenMixReferenceIdeal : Cert.EvenMixReferenceIdeal.Facts] : Prop :=
  ∀ (m : (ℓ : Loc Cert.EvenMixReferenceIdeal.nD Cert.EvenMixReferenceIdeal.τ Cert.EvenMixReferenceIdeal.sig) → Buf (Elt Ideal) ℓ) (g : Dev Cert.EvenMixReferenceIdeal.nD → PrngReg), Pre_EvenMixReferenceIdeal m →
    θ_run (Cert.EvenMixReferenceIdeal.defs (F := Ideal)) (onTc (τ := Cert.EvenMixReferenceIdeal.τ) (Cert.EvenMixReferenceIdeal.main (F := Ideal))) ⟨m, fun _ => 0, g⟩ (fun r => (∀ c : Dev Cert.EvenMixReferenceIdeal.nD,
      r.2.mem ((c.tc : Thread Cert.EvenMixReferenceIdeal.nD Cert.EvenMixReferenceIdeal.τ).loc Cert.EvenMixReferenceIdeal.main_arg0) = m ((c.tc : Thread Cert.EvenMixReferenceIdeal.nD Cert.EvenMixReferenceIdeal.τ).loc Cert.EvenMixReferenceIdeal.main_arg0)
      ∧ r.2.mem ((c.tc : Thread Cert.EvenMixReferenceIdeal.nD Cert.EvenMixReferenceIdeal.τ).loc Cert.EvenMixReferenceIdeal.main_arg1) = m ((c.tc : Thread Cert.EvenMixReferenceIdeal.nD Cert.EvenMixReferenceIdeal.τ).loc Cert.EvenMixReferenceIdeal.main_arg1)
      ∧ r.2.mem ((c.tc : Thread Cert.EvenMixReferenceIdeal.nD Cert.EvenMixReferenceIdeal.τ).loc Cert.EvenMixReferenceIdeal.main_arg2) = m ((c.tc : Thread Cert.EvenMixReferenceIdeal.nD Cert.EvenMixReferenceIdeal.τ).loc Cert.EvenMixReferenceIdeal.main_arg2)
      ∧ r.2.mem ((c.tc : Thread Cert.EvenMixReferenceIdeal.nD Cert.EvenMixReferenceIdeal.τ).loc Cert.EvenMixReferenceIdeal.main_arg3) = m ((c.tc : Thread Cert.EvenMixReferenceIdeal.nD Cert.EvenMixReferenceIdeal.τ).loc Cert.EvenMixReferenceIdeal.main_arg3)
      ∧ r.2.mem ((c.tc : Thread Cert.EvenMixReferenceIdeal.nD Cert.EvenMixReferenceIdeal.τ).loc Cert.EvenMixReferenceIdeal.main_arg4) = m ((c.tc : Thread Cert.EvenMixReferenceIdeal.nD Cert.EvenMixReferenceIdeal.τ).loc Cert.EvenMixReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)) (v2 : (c : Dev Cert.ProjIdeal.nD) → Buf (Elt Ideal) ((c.tc : Thread Cert.ProjIdeal.nD Cert.ProjIdeal.τ).loc Cert.ProjIdeal.main_v1_2)) (v3 : (c : Dev Cert.ProjIdeal.nD) → Buf (Elt Ideal) ((c.tc : Thread Cert.ProjIdeal.nD Cert.ProjIdeal.τ).loc Cert.ProjIdeal.main_v1_3)) (v4 : (c : Dev Cert.ProjIdeal.nD) → Buf (Elt Ideal) ((c.tc : Thread Cert.ProjIdeal.nD Cert.ProjIdeal.τ).loc Cert.ProjIdeal.main_v1_4)) (v5 : (c : Dev Cert.ProjIdeal.nD) → Buf (Elt Ideal) ((c.tc : Thread Cert.ProjIdeal.nD Cert.ProjIdeal.τ).loc Cert.ProjIdeal.main_v1_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_v1_2) = v2 c
          ∧ r.2.mem ((c.tc : Thread Cert.ProjIdeal.nD Cert.ProjIdeal.τ).loc Cert.ProjIdeal.main_v1_3) = v3 c
          ∧ r.2.mem ((c.tc : Thread Cert.ProjIdeal.nD Cert.ProjIdeal.τ).loc Cert.ProjIdeal.main_v1_4) = v4 c
          ∧ r.2.mem ((c.tc : Thread Cert.ProjIdeal.nD Cert.ProjIdeal.τ).loc Cert.ProjIdeal.main_v1_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v11) = v0 c
          ∧ r.2.mem ((c.tc : Thread Cert.ProjReferenceIdeal.nD Cert.ProjReferenceIdeal.τ).loc Cert.ProjReferenceIdeal.main_v12) = v1 c
          ∧ r.2.mem ((c.tc : Thread Cert.ProjReferenceIdeal.nD Cert.ProjReferenceIdeal.τ).loc Cert.ProjReferenceIdeal.main_v13) = v2 c
          ∧ r.2.mem ((c.tc : Thread Cert.ProjReferenceIdeal.nD Cert.ProjReferenceIdeal.τ).loc Cert.ProjReferenceIdeal.main_v14) = v3 c
          ∧ r.2.mem ((c.tc : Thread Cert.ProjReferenceIdeal.nD Cert.ProjReferenceIdeal.τ).loc Cert.ProjReferenceIdeal.main_v15) = v4 c
          ∧ r.2.mem ((c.tc : Thread Cert.ProjReferenceIdeal.nD Cert.ProjReferenceIdeal.τ).loc Cert.ProjReferenceIdeal.main_v16) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_OutLn_OutLnIdeal : Prop :=
  True

def algebraic_OutLnIdeal_OutLnReferenceIdeal_pre_all_finite [hOutLnIdeal : Cert.OutLnIdeal.Facts] [hOutLnReferenceIdeal : Cert.OutLnReferenceIdeal.Facts] [hPre_all_finite : Cert.Pre_all_finite.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnReferenceIdeal.nD Cert.OutLnReferenceIdeal.τ Cert.OutLnReferenceIdeal.sig) → Buf (Elt Ideal) ℓ) (g' : Dev Cert.OutLnReferenceIdeal.nD → PrngReg), Pre_OutLnIdeal_all_finite m →
    (∀ c : Dev Cert.OutLnIdeal.nD,
      m' ((c.tc : Thread Cert.OutLnReferenceIdeal.nD Cert.OutLnReferenceIdeal.τ).loc Cert.OutLnReferenceIdeal.main_arg0) = m ((c.tc : Thread Cert.OutLnIdeal.nD Cert.OutLnIdeal.τ).loc Cert.OutLnIdeal.main_arg0)
      ∧ m' ((c.tc : Thread Cert.OutLnReferenceIdeal.nD Cert.OutLnReferenceIdeal.τ).loc Cert.OutLnReferenceIdeal.main_arg1) = m ((c.tc : Thread Cert.OutLnIdeal.nD Cert.OutLnIdeal.τ).loc Cert.OutLnIdeal.main_arg1)
      ∧ m' ((c.tc : Thread Cert.OutLnReferenceIdeal.nD Cert.OutLnReferenceIdeal.τ).loc Cert.OutLnReferenceIdeal.main_arg2) = m ((c.tc : Thread Cert.OutLnIdeal.nD Cert.OutLnIdeal.τ).loc Cert.OutLnIdeal.main_arg2)
      ∧ m' ((c.tc : Thread Cert.OutLnReferenceIdeal.nD Cert.OutLnReferenceIdeal.τ).loc Cert.OutLnReferenceIdeal.main_arg3) = m ((c.tc : Thread Cert.OutLnIdeal.nD Cert.OutLnIdeal.τ).loc Cert.OutLnIdeal.main_arg3)
      ∧ m' ((c.tc : Thread Cert.OutLnReferenceIdeal.nD Cert.OutLnReferenceIdeal.τ).loc Cert.OutLnReferenceIdeal.main_arg4) = m ((c.tc : Thread Cert.OutLnIdeal.nD Cert.OutLnIdeal.τ).loc Cert.OutLnIdeal.main_arg4)
      ∧ m' ((c.tc : Thread Cert.OutLnReferenceIdeal.nD Cert.OutLnReferenceIdeal.τ).loc Cert.OutLnReferenceIdeal.main_arg5) = m ((c.tc : Thread Cert.OutLnIdeal.nD Cert.OutLnIdeal.τ).loc Cert.OutLnIdeal.main_arg5)
      ∧ m' ((c.tc : Thread Cert.OutLnReferenceIdeal.nD Cert.OutLnReferenceIdeal.τ).loc Cert.OutLnReferenceIdeal.main_arg6) = m ((c.tc : Thread Cert.OutLnIdeal.nD Cert.OutLnIdeal.τ).loc Cert.OutLnIdeal.main_arg6)) →
    ∃ (v0 : (c : Dev Cert.OutLnIdeal.nD) → Buf (Elt Ideal) ((c.tc : Thread Cert.OutLnIdeal.nD Cert.OutLnIdeal.τ).loc Cert.OutLnIdeal.main_v8_0)) (v1 : (c : Dev Cert.OutLnIdeal.nD) → Buf (Elt Ideal) ((c.tc : Thread Cert.OutLnIdeal.nD Cert.OutLnIdeal.τ).loc Cert.OutLnIdeal.main_v8_1)) (v2 : (c : Dev Cert.OutLnIdeal.nD) → Buf (Elt Ideal) ((c.tc : Thread Cert.OutLnIdeal.nD Cert.OutLnIdeal.τ).loc Cert.OutLnIdeal.main_v8_2)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v8_0) = v0 c
          ∧ r.2.mem ((c.tc : Thread Cert.OutLnIdeal.nD Cert.OutLnIdeal.τ).loc Cert.OutLnIdeal.main_v8_1) = v1 c
          ∧ r.2.mem ((c.tc : Thread Cert.OutLnIdeal.nD Cert.OutLnIdeal.τ).loc Cert.OutLnIdeal.main_v8_2) = v2 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
          ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ θ_run (Cert.OutLnReferenceIdeal.defs (F := Ideal)) (onTc (τ := Cert.OutLnReferenceIdeal.τ) (Cert.OutLnReferenceIdeal.main (F := Ideal))) ⟨m', fun _ => 0, g'⟩ (fun r => ∀ c : Dev Cert.OutLnReferenceIdeal.nD,
          r.2.mem ((c.tc : Thread Cert.OutLnReferenceIdeal.nD Cert.OutLnReferenceIdeal.τ).loc Cert.OutLnReferenceIdeal.main_v26) = v0 c
          ∧ r.2.mem ((c.tc : Thread Cert.OutLnReferenceIdeal.nD Cert.OutLnReferenceIdeal.τ).loc Cert.OutLnReferenceIdeal.main_v27) = v1 c
          ∧ r.2.mem ((c.tc : Thread Cert.OutLnReferenceIdeal.nD Cert.OutLnReferenceIdeal.τ).loc Cert.OutLnReferenceIdeal.main_v31) = v2 c
          ∧ r.2.mem ((c.tc : Thread Cert.OutLnReferenceIdeal.nD Cert.OutLnReferenceIdeal.τ).loc Cert.OutLnReferenceIdeal.main_arg0) = m' ((c.tc : Thread Cert.OutLnReferenceIdeal.nD Cert.OutLnReferenceIdeal.τ).loc Cert.OutLnReferenceIdeal.main_arg0)
          ∧ r.2.mem ((c.tc : Thread Cert.OutLnReferenceIdeal.nD Cert.OutLnReferenceIdeal.τ).loc Cert.OutLnReferenceIdeal.main_arg1) = m' ((c.tc : Thread Cert.OutLnReferenceIdeal.nD Cert.OutLnReferenceIdeal.τ).loc Cert.OutLnReferenceIdeal.main_arg1)
          ∧ r.2.mem ((c.tc : Thread Cert.OutLnReferenceIdeal.nD Cert.OutLnReferenceIdeal.τ).loc Cert.OutLnReferenceIdeal.main_arg2) = m' ((c.tc : Thread Cert.OutLnReferenceIdeal.nD Cert.OutLnReferenceIdeal.τ).loc Cert.OutLnReferenceIdeal.main_arg2)
          ∧ r.2.mem ((c.tc : Thread Cert.OutLnReferenceIdeal.nD Cert.OutLnReferenceIdeal.τ).loc Cert.OutLnReferenceIdeal.main_arg3) = m' ((c.tc : Thread Cert.OutLnReferenceIdeal.nD Cert.OutLnReferenceIdeal.τ).loc Cert.OutLnReferenceIdeal.main_arg3)
          ∧ r.2.mem ((c.tc : Thread Cert.OutLnReferenceIdeal.nD Cert.OutLnReferenceIdeal.τ).loc Cert.OutLnReferenceIdeal.main_arg4) = m' ((c.tc : Thread Cert.OutLnReferenceIdeal.nD Cert.OutLnReferenceIdeal.τ).loc Cert.OutLnReferenceIdeal.main_arg4)
          ∧ r.2.mem ((c.tc : Thread Cert.OutLnReferenceIdeal.nD Cert.OutLnReferenceIdeal.τ).loc Cert.OutLnReferenceIdeal.main_arg5) = m' ((c.tc : Thread Cert.OutLnReferenceIdeal.nD Cert.OutLnReferenceIdeal.τ).loc Cert.OutLnReferenceIdeal.main_arg5)
          ∧ r.2.mem ((c.tc : Thread Cert.OutLnReferenceIdeal.nD Cert.OutLnReferenceIdeal.τ).loc Cert.OutLnReferenceIdeal.main_arg6) = m' ((c.tc : Thread Cert.OutLnReferenceIdeal.nD Cert.OutLnReferenceIdeal.τ).loc Cert.OutLnReferenceIdeal.main_arg6))

def preserves_EvenMix_EvenMixIdeal : Prop :=
  True

def algebraic_EvenMixIdeal_EvenMixReferenceIdeal [hEvenMixIdeal : Cert.EvenMixIdeal.Facts] [hEvenMixReferenceIdeal : Cert.EvenMixReferenceIdeal.Facts] : Prop :=
  ∀ (m : (ℓ : Loc Cert.EvenMixIdeal.nD Cert.EvenMixIdeal.τ Cert.EvenMixIdeal.sig) → Buf (Elt Ideal) ℓ) (g : Dev Cert.EvenMixIdeal.nD → PrngReg)
    (m' : (ℓ : Loc Cert.EvenMixReferenceIdeal.nD Cert.EvenMixReferenceIdeal.τ Cert.EvenMixReferenceIdeal.sig) → Buf (Elt Ideal) ℓ) (g' : Dev Cert.EvenMixReferenceIdeal.nD → PrngReg), Pre_EvenMixIdeal m →
    (∀ c : Dev Cert.EvenMixIdeal.nD,
      m' ((c.tc : Thread Cert.EvenMixReferenceIdeal.nD Cert.EvenMixReferenceIdeal.τ).loc Cert.EvenMixReferenceIdeal.main_arg0) = m ((c.tc : Thread Cert.EvenMixIdeal.nD Cert.EvenMixIdeal.τ).loc Cert.EvenMixIdeal.main_arg0)
      ∧ m' ((c.tc : Thread Cert.EvenMixReferenceIdeal.nD Cert.EvenMixReferenceIdeal.τ).loc Cert.EvenMixReferenceIdeal.main_arg1) = m ((c.tc : Thread Cert.EvenMixIdeal.nD Cert.EvenMixIdeal.τ).loc Cert.EvenMixIdeal.main_arg1)
      ∧ m' ((c.tc : Thread Cert.EvenMixReferenceIdeal.nD Cert.EvenMixReferenceIdeal.τ).loc Cert.EvenMixReferenceIdeal.main_arg2) = m ((c.tc : Thread Cert.EvenMixIdeal.nD Cert.EvenMixIdeal.τ).loc Cert.EvenMixIdeal.main_arg2)
      ∧ m' ((c.tc : Thread Cert.EvenMixReferenceIdeal.nD Cert.EvenMixReferenceIdeal.τ).loc Cert.EvenMixReferenceIdeal.main_arg3) = m ((c.tc : Thread Cert.EvenMixIdeal.nD Cert.EvenMixIdeal.τ).loc Cert.EvenMixIdeal.main_arg3)
      ∧ m' ((c.tc : Thread Cert.EvenMixReferenceIdeal.nD Cert.EvenMixReferenceIdeal.τ).loc Cert.EvenMixReferenceIdeal.main_arg4) = m ((c.tc : Thread Cert.EvenMixIdeal.nD Cert.EvenMixIdeal.τ).loc Cert.EvenMixIdeal.main_arg4)) →
    ∃ (v0 : (c : Dev Cert.EvenMixIdeal.nD) → Buf (Elt Ideal) ((c.tc : Thread Cert.EvenMixIdeal.nD Cert.EvenMixIdeal.τ).loc Cert.EvenMixIdeal.main_v3)),
      θ_run (Cert.EvenMixIdeal.defs (F := Ideal)) (onTc (τ := Cert.EvenMixIdeal.τ) (Cert.EvenMixIdeal.main (F := Ideal))) ⟨m, fun _ => 0, g⟩ (fun r => ∀ c : Dev Cert.EvenMixIdeal.nD,
          r.2.mem ((c.tc : Thread Cert.EvenMixIdeal.nD Cert.EvenMixIdeal.τ).loc Cert.EvenMixIdeal.main_v3) = v0 c
          ∧ r.2.mem ((c.tc : Thread Cert.EvenMixIdeal.nD Cert.EvenMixIdeal.τ).loc Cert.EvenMixIdeal.main_arg0) = m ((c.tc : Thread Cert.EvenMixIdeal.nD Cert.EvenMixIdeal.τ).loc Cert.EvenMixIdeal.main_arg0)
          ∧ r.2.mem ((c.tc : Thread Cert.EvenMixIdeal.nD Cert.EvenMixIdeal.τ).loc Cert.EvenMixIdeal.main_arg1) = m ((c.tc : Thread Cert.EvenMixIdeal.nD Cert.EvenMixIdeal.τ).loc Cert.EvenMixIdeal.main_arg1)
          ∧ r.2.mem ((c.tc : Thread Cert.EvenMixIdeal.nD Cert.EvenMixIdeal.τ).loc Cert.EvenMixIdeal.main_arg2) = m ((c.tc : Thread Cert.EvenMixIdeal.nD Cert.EvenMixIdeal.τ).loc Cert.EvenMixIdeal.main_arg2)
          ∧ r.2.mem ((c.tc : Thread Cert.EvenMixIdeal.nD Cert.EvenMixIdeal.τ).loc Cert.EvenMixIdeal.main_arg3) = m ((c.tc : Thread Cert.EvenMixIdeal.nD Cert.EvenMixIdeal.τ).loc Cert.EvenMixIdeal.main_arg3)
          ∧ r.2.mem ((c.tc : Thread Cert.EvenMixIdeal.nD Cert.EvenMixIdeal.τ).loc Cert.EvenMixIdeal.main_arg4) = m ((c.tc : Thread Cert.EvenMixIdeal.nD Cert.EvenMixIdeal.τ).loc Cert.EvenMixIdeal.main_arg4))
      ∧ θ_run (Cert.EvenMixReferenceIdeal.defs (F := Ideal)) (onTc (τ := Cert.EvenMixReferenceIdeal.τ) (Cert.EvenMixReferenceIdeal.main (F := Ideal))) ⟨m', fun _ => 0, g'⟩ (fun r => ∀ c : Dev Cert.EvenMixReferenceIdeal.nD,
          r.2.mem ((c.tc : Thread Cert.EvenMixReferenceIdeal.nD Cert.EvenMixReferenceIdeal.τ).loc Cert.EvenMixReferenceIdeal.main_v71) = v0 c
          ∧ r.2.mem ((c.tc : Thread Cert.EvenMixReferenceIdeal.nD Cert.EvenMixReferenceIdeal.τ).loc Cert.EvenMixReferenceIdeal.main_arg0) = m' ((c.tc : Thread Cert.EvenMixReferenceIdeal.nD Cert.EvenMixReferenceIdeal.τ).loc Cert.EvenMixReferenceIdeal.main_arg0)
          ∧ r.2.mem ((c.tc : Thread Cert.EvenMixReferenceIdeal.nD Cert.EvenMixReferenceIdeal.τ).loc Cert.EvenMixReferenceIdeal.main_arg1) = m' ((c.tc : Thread Cert.EvenMixReferenceIdeal.nD Cert.EvenMixReferenceIdeal.τ).loc Cert.EvenMixReferenceIdeal.main_arg1)
          ∧ r.2.mem ((c.tc : Thread Cert.EvenMixReferenceIdeal.nD Cert.EvenMixReferenceIdeal.τ).loc Cert.EvenMixReferenceIdeal.main_arg2) = m' ((c.tc : Thread Cert.EvenMixReferenceIdeal.nD Cert.EvenMixReferenceIdeal.τ).loc Cert.EvenMixReferenceIdeal.main_arg2)
          ∧ r.2.mem ((c.tc : Thread Cert.EvenMixReferenceIdeal.nD Cert.EvenMixReferenceIdeal.τ).loc Cert.EvenMixReferenceIdeal.main_arg3) = m' ((c.tc : Thread Cert.EvenMixReferenceIdeal.nD Cert.EvenMixReferenceIdeal.τ).loc Cert.EvenMixReferenceIdeal.main_arg3)
          ∧ r.2.mem ((c.tc : Thread Cert.EvenMixReferenceIdeal.nD Cert.EvenMixReferenceIdeal.τ).loc Cert.EvenMixReferenceIdeal.main_arg4) = m' ((c.tc : Thread Cert.EvenMixReferenceIdeal.nD Cert.EvenMixReferenceIdeal.τ).loc Cert.EvenMixReferenceIdeal.main_arg4))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hOutLn : Cert.OutLn.Facts) (hOutLnIdeal : Cert.OutLnIdeal.Facts) (hOutLnReferenceIdeal : Cert.OutLnReferenceIdeal.Facts) (hEvenMix : Cert.EvenMix.Facts) (hEvenMixIdeal : Cert.EvenMixIdeal.Facts) (hEvenMixReferenceIdeal : Cert.EvenMixReferenceIdeal.Facts) (hPre_experts_in_range : Cert.Pre_experts_in_range.Facts) (hPre_all_finite : Cert.Pre_all_finite.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Proj (hProj := hProj)
    ∧ quiescent_ProjIdeal (hProjIdeal := hProjIdeal)
    ∧ quiescent_ProjReferenceIdeal (hProjReferenceIdeal := hProjReferenceIdeal)
    ∧ quiescent_OutLn (hOutLn := hOutLn)
    ∧ quiescent_OutLnIdeal (hOutLnIdeal := hOutLnIdeal)
    ∧ quiescent_OutLnIdeal_pre_all_finite (hOutLnIdeal := hOutLnIdeal) (hPre_all_finite := hPre_all_finite)
    ∧ quiescent_OutLnReferenceIdeal (hOutLnReferenceIdeal := hOutLnReferenceIdeal)
    ∧ quiescent_OutLnReferenceIdeal_pre_all_finite (hOutLnReferenceIdeal := hOutLnReferenceIdeal) (hPre_all_finite := hPre_all_finite)
    ∧ quiescent_EvenMix (hEvenMix := hEvenMix)
    ∧ quiescent_EvenMixIdeal (hEvenMixIdeal := hEvenMixIdeal)
    ∧ quiescent_EvenMixReferenceIdeal (hEvenMixReferenceIdeal := hEvenMixReferenceIdeal)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Proj_ProjIdeal
    ∧ algebraic_ProjIdeal_ProjReferenceIdeal (hProjIdeal := hProjIdeal) (hProjReferenceIdeal := hProjReferenceIdeal)
    ∧ preserves_OutLn_OutLnIdeal
    ∧ algebraic_OutLnIdeal_OutLnReferenceIdeal_pre_all_finite (hOutLnIdeal := hOutLnIdeal) (hOutLnReferenceIdeal := hOutLnReferenceIdeal) (hPre_all_finite := hPre_all_finite)
    ∧ preserves_EvenMix_EvenMixIdeal
    ∧ algebraic_EvenMixIdeal_EvenMixReferenceIdeal (hEvenMixIdeal := hEvenMixIdeal) (hEvenMixReferenceIdeal := hEvenMixReferenceIdeal)
-- ==== Pre_all_finite.lean ====
abbrev S32768x1024 : Shape := ⟨2, ![32768, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg5 : FVec F S1024x32 .f32) (main_v28 : IVec S_ 1) (main_v33 : IVec S1024 1) : IVec S_ 1 :=
  let main_c_12 : IVec S_ 1 := constantI S_ 1 1#1
  let main_v34 : IVec S_ 1 := (fun x v => Host.reduce IntOp.andi x v reducesTo_S1024_S_d0 h_S_) main_v33 main_c_12
  let main_v35 : IVec S_ 1 := andi main_v28 main_v34
  let main_cst_13 : FVec F S_ .f32 := constant S_ .f32 0xFF800000#32
  let main_v36 : FVec F S1024x32 .f32 := broadcastInDim S1024x32 ![] bcast_S_S1024x32 main_cst_13
  let main_v37 : IVec S1024x32 1 := cmpf .ogt main_arg5 main_v36
  let main_cst_14 : FVec F S_ .f32 := constant S_ .f32 0x7F800000#32
  let main_v38 : FVec F S1024x32 .f32 := broadcastInDim S1024x32 ![] bcast_S_S1024x32 main_cst_14
  let main_v39 : IVec S1024x32 1 := cmpf .olt main_arg5 main_v38
  let main_v40 : IVec S1024x32 1 := andi main_v37 main_v39
  let main_c_15 : IVec S_ 1 := constantI S_ 1 1#1
  let main_v41 : IVec S_ 1 := (fun x v => Host.reduce IntOp.andi x v reducesTo_S1024x32_S_d0_1 h_S_) main_v40 main_c_15
  let main_v42 : IVec S_ 1 := andi main_v35 main_v41
  main_v42

def fn_part1 {F : FTy → Type} [FloatOps F] (main_arg2 : FVec F S32768x1024 .f32) (main_arg3 : FVec F S1024 .f32) (main_arg4 : FVec F S1024 .f32) (main_arg5 : FVec F S1024x32 .f32) (main_v14 : IVec S_ 1) (main_v16 : IVec S32768x1024 1) : IVec S_ 1 :=
  let main_cst_5 : FVec F S_ .f32 := constant S_ .f32 0x7F800000#32
  let main_v17 : FVec F S32768x1024 .f32 := broadcastInDim S32768x1024 ![] bcast_S_S32768x1024 main_cst_5
  let main_v18 : IVec S32768x1024 1 := cmpf .olt main_arg2 main_v17
  let main_v19 : IVec S32768x1024 1 := andi main_v16 main_v18
  let main_c_6 : IVec S_ 1 := constantI S_ 1 1#1
  let main_v20 : IVec S_ 1 := (fun x v => Host.reduce IntOp.andi x v reducesTo_S32768x1024_S_d0_1 h_S_) main_v19 main_c_6
  let main_v21 : IVec S_ 1 := andi main_v14 main_v20
  let main_cst_7 : FVec F S_ .f32 := constant S_ .f32 0xFF800000#32
  let main_v22 : FVec F S1024 .f32 := broadcastInDim S1024 ![] bcast_S_S1024 main_cst_7
  let main_v23 : IVec S1024 1 := cmpf .ogt main_arg3 main_v22
  let main_cst_8 : FVec F S_ .f32 := constant S_ .f32 0x7F800000#32
  let main_v24 : FVec F S1024 .f32 := broadcastInDim S1024 ![] bcast_S_S1024 main_cst_8
  let main_v25 : IVec S1024 1 := cmpf .olt main_arg3 main_v24
  let main_v26 : IVec S1024 1 := andi main_v23 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v21 main_v27
  let main_cst_10 : FVec F S_ .f32 := constant S_ .f32 0xFF800000#32
  let main_v29 : FVec F S1024 .f32 := broadcastInDim S1024 ![] bcast_S_S1024 main_cst_10
  let main_v30 : IVec S1024 1 := cmpf .ogt main_arg4 main_v29
  let main_cst_11 : FVec F S_ .f32 := constant S_ .f32 0x7F800000#32
  let main_v31 : FVec F S1024 .f32 := broadcastInDim S1024 ![] bcast_S_S1024 main_cst_11
  let main_v32 : IVec S1024 1 := cmpf .olt main_arg4 main_v31
  let main_v33 : IVec S1024 1 := andi main_v30 main_v32
  fn_part2 (F := F) main_arg5 main_v28 main_v33

def fn {F : FTy → Type} [FloatOps F] (main_arg0 : FVec F S32768x1024 .bf16) (main_arg1 : FVec F S1024x1024 .f32) (main_arg2 : FVec F S32768x1024 .f32) (main_arg3 : FVec F S1024 .f32) (main_arg4 : FVec F S1024 .f32) (main_arg5 : FVec F S1024x32 .f32) (main_arg6 : FVec F S32 .f32) : IVec S_ 1 :=
  let main_v0 : FVec F S32768x1024 .f32 := (extf .f32 · bitsLt_bf16_f32) main_arg0
  let main_cst : FVec F S_ .f32 := constant S_ .f32 0xFF800000#32
  let main_v1 : FVec F S32768x1024 .f32 := broadcastInDim S32768x1024 ![] bcast_S_S32768x1024 main_cst
  let main_v2 : IVec S32768x1024 1 := cmpf .ogt main_v0 main_v1
  let main_v3 : FVec F S32768x1024 .f32 := (extf .f32 · bitsLt_bf16_f32) main_arg0
  let main_cst_0 : FVec F S_ .f32 := constant S_ .f32 0x7F800000#32
  let main_v4 : FVec F S32768x1024 .f32 := broadcastInDim S32768x1024 ![] bcast_S_S32768x1024 main_cst_0
  let main_v5 : IVec S32768x1024 1 := cmpf .olt main_v3 main_v4
  let main_v6 : IVec S32768x1024 1 := andi main_v2 main_v5
  let main_c : IVec S_ 1 := constantI S_ 1 1#1
  let main_v7 : IVec S_ 1 := (fun x v => Host.reduce IntOp.andi x v reducesTo_S32768x1024_S_d0_1 h_S_) main_v6 main_c
  let main_cst_1 : FVec F S_ .f32 := constant S_ .f32 0xFF800000#32
  let main_v8 : FVec F S1024x1024 .f32 := broadcastInDim S1024x1024 ![] bcast_S_S1024x1024 main_cst_1
  let main_v9 : IVec S1024x1024 1 := cmpf .ogt main_arg1 main_v8
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_arg1 main_v10
  let main_v12 : IVec S1024x1024 1 := andi main_v9 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v7 main_v13
  let main_cst_4 : FVec F S_ .f32 := constant S_ .f32 0xFF800000#32
  let main_v15 : FVec F S32768x1024 .f32 := broadcastInDim S32768x1024 ![] bcast_S_S32768x1024 main_cst_4
  let main_v16 : IVec S32768x1024 1 := cmpf .ogt main_arg2 main_v15
  fn_part1 (F := F) main_arg2 main_arg3 main_arg4 main_arg5 main_v14 main_v16
-- ==== Pre_experts_in_range.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : IVec S544 32) (main_arg1 : IVec S1 32) (main_arg2 : FVec F S139264x1024 .bf16) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  main_v5
-- ==== Kernel.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 16
  | .vmem => 16
  | .smem => 2
  | _ => 0

abbrev bufTy : (tb : Table) → Fin (tcTables nBuf tb) → BufTy
  | .hbm, ⟨0, _⟩ => ⟨S139264x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024x1024, .bf16⟩
  | .hbm, ⟨7, _⟩ => ⟨S32x1024x1024, .f32⟩
  | .hbm, ⟨8, _⟩ => ⟨S32x1024x1024, .bf16⟩
  | .hbm, ⟨9, _⟩ => ⟨S32x1024, .f32⟩
  | .hbm, ⟨10, _⟩ => ⟨S32x1x1024, .f32⟩
  | .hbm, ⟨11, _⟩ => ⟨S32x1024, .f32⟩
  | .hbm, ⟨12, _⟩ => ⟨S32x1x1024, .f32⟩
  | .hbm, ⟨13, _⟩ => ⟨S32x1024x1024, .bf16⟩
  | .hbm, ⟨14, _⟩ => ⟨S32x1x1024, .f32⟩
  | .hbm, ⟨15, _⟩ => ⟨S139264x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .bf16⟩
  | .local _ .vmem, ⟨15, _⟩ => ⟨S256x1024, .bf16⟩
  | .local _ .smem, ⟨0, _⟩ => ⟨S544, .i32⟩
  | .local _ .smem, ⟨1, _⟩ => ⟨S1, .i32⟩
  | _, _ => ⟨S139264x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S139264x1024, .bf16⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S139264x1024, .f32⟩
  | .hbm, ⟨8, _⟩ => ⟨S544x256x1024, .f32⟩
  | .hbm, ⟨9, _⟩ => ⟨S_, .i32⟩
  | .hbm, ⟨10, _⟩ => ⟨S544, .i32⟩
  | .hbm, ⟨11, _⟩ => ⟨S544, .i1⟩
  | .hbm, ⟨12, _⟩ => ⟨S_, .i32⟩
  | .hbm, ⟨13, _⟩ => ⟨S544, .i32⟩
  | .hbm, ⟨14, _⟩ => ⟨S544, .i32⟩
  | .hbm, ⟨15, _⟩ => ⟨S544, .i32⟩
  | .hbm, ⟨16, _⟩ => ⟨S544x1, .i32⟩
  | .hbm, ⟨17, _⟩ => ⟨S544x1024x2048, .f32⟩
  | .hbm, ⟨18, _⟩ => ⟨S544x256x2048, .f32⟩
  | .hbm, ⟨19, _⟩ => ⟨S_, .i32⟩
  | .hbm, ⟨20, _⟩ => ⟨S544, .i32⟩
  | .hbm, ⟨21, _⟩ => ⟨S544, .i1⟩
  | .hbm, ⟨22, _⟩ => ⟨S_, .i32⟩
  | .hbm, ⟨23, _⟩ => ⟨S544, .i32⟩
  | .hbm, ⟨24, _⟩ => ⟨S544, .i32⟩
  | .hbm, ⟨25, _⟩ => ⟨S544, .i32⟩
  | .hbm, ⟨26, _⟩ => ⟨S544x1, .i32⟩
  | .hbm, ⟨27, _⟩ => ⟨S544x2048, .f32⟩
  | .hbm, ⟨28, _⟩ => ⟨S544x1x2048, .f32⟩
  | .hbm, ⟨29, _⟩ => ⟨S544x256x2048, .f32⟩
  | .hbm, ⟨30, _⟩ => ⟨S544x256x2048, .f32⟩
  | .hbm, ⟨31, _⟩ => ⟨S544x256x1024, .f32⟩
  | .hbm, ⟨32, _⟩ => ⟨S_, .f32⟩
  | .hbm, ⟨33, _⟩ => ⟨S544x256x1024, .f32⟩
  | .hbm, ⟨34, _⟩ => ⟨S544x256x1024, .f32⟩
  | .hbm, ⟨35, _⟩ => ⟨S544x256x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S544x256x1024, .f32⟩
  | .hbm, ⟨40, _⟩ => ⟨S544x256x1024, .f32⟩
  | .hbm, ⟨41, _⟩ => ⟨S_, .f32⟩
  | .hbm, ⟨42, _⟩ => ⟨S544x256x1024, .f32⟩
  | .hbm, ⟨43, _⟩ => ⟨S544x256x1024, .f32⟩
  | .hbm, ⟨44, _⟩ => ⟨S_, .f32⟩
  | .hbm, ⟨45, _⟩ => ⟨S544x256x1024, .f32⟩
  | .hbm, ⟨46, _⟩ => ⟨S544x256x1024, .f32⟩
  | .hbm, ⟨47, _⟩ => ⟨S544x256x1024, .f32⟩
  | .hbm, ⟨48, _⟩ => ⟨S544x256x1024, .f32⟩
  | .hbm, ⟨49, _⟩ => ⟨S_, .f32⟩
  | .hbm, ⟨50, _⟩ => ⟨S544x256x1024, .f32⟩
  | .hbm, ⟨51, _⟩ => ⟨S544x256x1024, .f32⟩
  | .hbm, ⟨52, _⟩ => ⟨S_, .f32⟩
  | .hbm, ⟨53, _⟩ => ⟨S544x256x1024, .f32⟩
  | .hbm, ⟨54, _⟩ => ⟨S544x256x1024, .f32⟩
  | .hbm, ⟨55, _⟩ => ⟨S544x256x1024, .f32⟩
  | .hbm, ⟨56, _⟩ => ⟨S_, .f32⟩
  | .hbm, ⟨57, _⟩ => ⟨S544x256x1024, .f32⟩
  | .hbm, ⟨58, _⟩ => ⟨S544x256x1024, .f32⟩
  | .hbm, ⟨59, _⟩ => ⟨S544x256x1024, .f32⟩
  | .hbm, ⟨60, _⟩ => ⟨S_, .i32⟩
  | .hbm, ⟨61, _⟩ => ⟨S544, .i32⟩
  | .hbm, ⟨62, _⟩ => ⟨S544, .i1⟩
  | .hbm, ⟨63, _⟩ => ⟨S_, .i32⟩
  | .hbm, ⟨64, _⟩ => ⟨S544, .i32⟩
  | .hbm, ⟨65, _⟩ => ⟨S544, .i32⟩
  | .hbm, ⟨66, _⟩ => ⟨S544, .i32⟩
  | .hbm, ⟨67, _⟩ => ⟨S544x1, .i32⟩
  | .hbm, ⟨68, _⟩ => ⟨S544x1024x1024, .f32⟩
  | .hbm, ⟨69, _⟩ => ⟨S544x256x1024, .f32⟩
  | .hbm, ⟨70, _⟩ => ⟨S_, .i32⟩
  | .hbm, ⟨71, _⟩ => ⟨S544, .i32⟩
  | .hbm, ⟨72, _⟩ => ⟨S544, .i1⟩
  | .hbm, ⟨73, _⟩ => ⟨S_, .i32⟩
  | .hbm, ⟨74, _⟩ => ⟨S544, .i32⟩
  | .hbm, ⟨75, _⟩ => ⟨S544, .i32⟩
  | .hbm, ⟨76, _⟩ => ⟨S544, .i32⟩
  | .hbm, ⟨77, _⟩ => ⟨S544x1, .i32⟩
  | .hbm, ⟨78, _⟩ => ⟨S544x1024, .f32⟩
  | .hbm, ⟨79, _⟩ => ⟨S544x1x1024, .f32⟩
  | .hbm, ⟨80, _⟩ => ⟨S544x256x1024, .f32⟩
  | .hbm, ⟨81, _⟩ => ⟨S544x256x1024, .f32⟩
  | .hbm, ⟨82, _⟩ => ⟨S544, .i32⟩
  | .hbm, ⟨83, _⟩ => ⟨S544x1x1, .i32⟩
  | .hbm, ⟨84, _⟩ => ⟨S_, .i32⟩
  | .hbm, ⟨85, _⟩ => ⟨S544x1x1, .i32⟩
  | .hbm, ⟨86, _⟩ => ⟨S544x1x1, .i1⟩
  | .hbm, ⟨87, _⟩ => ⟨S_, .f32⟩
  | .hbm, ⟨88, _⟩ => ⟨S_, .f32⟩
  | .hbm, ⟨89, _⟩ => ⟨S544x256x1024, .i1⟩
  | .hbm, ⟨90, _⟩ => ⟨S544x256x1024, .f32⟩
  | .hbm, ⟨91, _⟩ => ⟨S544x256x1024, .f32⟩
  | .hbm, ⟨92, _⟩ => ⟨S139264x1024, .f32⟩
  | .hbm, ⟨93, _⟩ => ⟨S139264x1024, .bf16⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Proj.lean ====
abbrev S32768x1024 : Shape := ⟨2, ![32768, 1024]⟩
abbrev S1024x2304 : Shape := ⟨2, ![1024, 2304]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512x2304 : Shape := ⟨2, ![512, 2304]⟩

abbrev nBuf : Space → Nat
  | .hbm => 9
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024x2304, .f32⟩
  | .hbm, ⟨2, _⟩ => ⟨S1024x2304, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x128, .bf16⟩
  | .hbm, ⟨8, _⟩ => ⟨S32768x128, .bf16⟩
  | .local _ .vmem, ⟨0, _⟩ => ⟨S512x1024, .f32⟩
  | .local _ .vmem, ⟨1, _⟩ => ⟨S512x1024, .f32⟩
  | .local _ .vmem, ⟨2, _⟩ => ⟨S1024x2304, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjReferenceIdeal.lean ====
abbrev S32768x1024 : Shape := ⟨2, ![32768, 1024]⟩
abbrev S1024x2304 : Shape := ⟨2, ![1024, 2304]⟩
abbrev S32768x2304 : Shape := ⟨2, ![32768, 2304]⟩
abbrev S32768x512 : Shape := ⟨2, ![32768, 512]⟩
abbrev S32768x128 : Shape := ⟨2, ![32768, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2304, .f32⟩
  | .hbm, ⟨2, _⟩ => ⟨S32768x2304, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S32768x128, .f32⟩
  | .hbm, ⟨8, _⟩ => ⟨S32768x128, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S_, .f32⟩
  | .hbm, ⟨13, _⟩ => ⟨S32768x512, .f32⟩
  | .hbm, ⟨14, _⟩ => ⟨S32768x512, .f32⟩
  | .hbm, ⟨15, _⟩ => ⟨S32768x512, .bf16⟩
  | .hbm, ⟨16, _⟩ => ⟨S32768x512, .bf16⟩
  | .hbm, ⟨17, _⟩ => ⟨S32768x512, .bf16⟩
  | .hbm, ⟨18, _⟩ => ⟨S32768x512, .bf16⟩
  | .hbm, ⟨19, _⟩ => ⟨S32768x128, .bf16⟩
  | .hbm, ⟨20, _⟩ => ⟨S32768x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== OutLn.lean ====
abbrev S32768x1024 : Shape := ⟨2, ![32768, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024 : Shape := ⟨2, ![1, 1024]⟩
abbrev S1x32 : Shape := ⟨2, ![1, 32]⟩
abbrev S32768x32 : Shape := ⟨2, ![32768, 32]⟩
abbrev S512x1024 : Shape := ⟨2, ![512, 1024]⟩
abbrev S512x32 : Shape := ⟨2, ![512, 32]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1024x32, .f32⟩
  | .hbm, ⟨6, _⟩ => ⟨S32, .f32⟩
  | .hbm, ⟨7, _⟩ => ⟨S1024x32, .bf16⟩
  | .hbm, ⟨8, _⟩ => ⟨S1024x32, .f32⟩
  | .hbm, ⟨9, _⟩ => ⟨S1024x32, .f32⟩
  | .hbm, ⟨10, _⟩ => ⟨S1024x32, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x32, .f32⟩
  | .hbm, ⟨15, _⟩ => ⟨S32768x1024, .f32⟩
  | .hbm, ⟨16, _⟩ => ⟨S32768x1024, .bf16⟩
  | .hbm, ⟨17, _⟩ => ⟨S32768x32, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x32, .bf16⟩
  | .local _ .vmem, ⟨8, _⟩ => ⟨S1024x32, .bf16⟩
  | .local _ .vmem, ⟨9, _⟩ => ⟨S1x32, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x32, .f32⟩
  | .local _ .vmem, ⟨15, _⟩ => ⟨S512x32, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutLnReferenceIdeal.lean ====
abbrev S32768x1024 : Shape := ⟨2, ![32768, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x32 : Shape := ⟨2, ![32768, 32]⟩
abbrev S1x32 : Shape := ⟨2, ![1, 32]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1024x32, .f32⟩
  | .hbm, ⟨6, _⟩ => ⟨S32, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S32768x1024, .bf16⟩
  | .hbm, ⟨41, _⟩ => ⟨S32768x32, .f32⟩
  | .hbm, ⟨42, _⟩ => ⟨S1x32, .f32⟩
  | .hbm, ⟨43, _⟩ => ⟨S32768x32, .f32⟩
  | .hbm, ⟨44, _⟩ => ⟨S32768x32, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== EvenMix.lean ====
abbrev S16x2048x1024 : Shape := ⟨3, ![16, 2048, 1024]⟩
abbrev S1024x2048 : Shape := ⟨2, ![1024, 2048]⟩
abbrev S4x128x128 : Shape := ⟨3, ![4, 128, 128]⟩
abbrev S512 : Shape := ⟨1, ![512]⟩
abbrev S3x512 : Shape := ⟨2, ![3, 512]⟩
abbrev S1x512 : Shape := ⟨2, ![1, 512]⟩
abbrev S1x2048x1024 : Shape := ⟨3, ![1, 2048, 1024]⟩
abbrev S2048x1024 : Shape := ⟨2, ![2048, 1024]⟩
abbrev S2048x128 : Shape := ⟨2, ![2048, 128]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S1x2048x128 : Shape := ⟨3, ![1, 2048, 128]⟩
abbrev S2048x256 : Shape := ⟨2, ![2048, 256]⟩
abbrev S1024x256 : Shape := ⟨2, ![1024, 256]⟩
abbrev S1x256 : Shape := ⟨2, ![1, 256]⟩
abbrev S1x2048x256 : Shape := ⟨3, ![1, 2048, 256]⟩

abbrev nBuf : Space → Nat
  | .hbm => 9
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024x2048, .f32⟩
  | .hbm, ⟨2, _⟩ => ⟨S4x128x128, .f32⟩
  | .hbm, ⟨3, _⟩ => ⟨S512, .f32⟩
  | .hbm, ⟨4, _⟩ => ⟨S3x512, .f32⟩
  | .hbm, ⟨5, _⟩ => ⟨S1024x2048, .bf16⟩
  | .hbm, ⟨6, _⟩ => ⟨S4x128x128, .bf16⟩
  | .hbm, ⟨7, _⟩ => ⟨S1x512, .f32⟩
  | .hbm, ⟨8, _⟩ => ⟨S16x2048x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S1024x2048, .bf16⟩
  | .local _ .vmem, ⟨3, _⟩ => ⟨S4x128x128, .bf16⟩
  | .local _ .vmem, ⟨4, _⟩ => ⟨S1x512, .f32⟩
  | .local _ .vmem, ⟨5, _⟩ => ⟨S3x512, .f32⟩
  | .local _ .vmem, ⟨6, _⟩ => ⟨S1x2048x1024, .bf16⟩
  | .local _ .vmem, ⟨7, _⟩ => ⟨S1x2048x1024, .bf16⟩
  | .local _ .vmem, ⟨8, _⟩ => ⟨S2048x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenMixReferenceIdeal.lean ====
abbrev S16x2048x1024 : Shape := ⟨3, ![16, 2048, 1024]⟩
abbrev S1024x2048 : Shape := ⟨2, ![1024, 2048]⟩
abbrev S4x128x128 : Shape := ⟨3, ![4, 128, 128]⟩
abbrev S512 : Shape := ⟨1, ![512]⟩
abbrev S3x512 : Shape := ⟨2, ![3, 512]⟩
abbrev S4 : Shape := ⟨1, ![4]⟩
abbrev S2048 : Shape := ⟨1, ![2048]⟩
abbrev S_ : Shape := ⟨0, ![]⟩
abbrev S16x2048x2048 : Shape := ⟨3, ![16, 2048, 2048]⟩
abbrev S16x2048x512 : Shape := ⟨3, ![16, 2048, 512]⟩
abbrev S4x1 : Shape := ⟨2, ![4, 1]⟩
abbrev S1x2048 : Shape := ⟨2, ![1, 2048]⟩
abbrev S4x2048 : Shape := ⟨2, ![4, 2048]⟩
abbrev S4x2048x1 : Shape := ⟨3, ![4, 2048, 1]⟩
abbrev S1x1x2048 : Shape := ⟨3, ![1, 1, 2048]⟩
abbrev S4x2048x2048 : Shape := ⟨3, ![4, 2048, 2048]⟩
abbrev S16x2048x4x128 : Shape := ⟨4, ![16, 2048, 4, 128]⟩
abbrev S4x16x128x2048 : Shape := ⟨4, ![4, 16, 128, 2048]⟩
abbrev S2048x4 : Shape := ⟨2, ![2048, 4]⟩
abbrev S1x2048x4x1 : Shape := ⟨4, ![1, 2048, 4, 1]⟩
abbrev S4x128x16x2048 : Shape := ⟨4, ![4, 128, 16, 2048]⟩
abbrev S1x1x512 : Shape := ⟨3, ![1, 1, 512]⟩
abbrev S16x2050x512 : Shape := ⟨3, ![16, 2050, 512]⟩
abbrev S1x512 : Shape := ⟨2, ![1, 512]⟩

abbrev nBuf : Space → Nat
  | .hbm => 111
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x2048, .f32⟩
  | .hbm, ⟨2, _⟩ => ⟨S4x128x128, .f32⟩
  | .hbm, ⟨3, _⟩ => ⟨S512, .f32⟩
  | .hbm, ⟨4, _⟩ => ⟨S3x512, .f32⟩
  | .hbm, ⟨5, _⟩ => ⟨S4, .i32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S4, .i32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i1⟩
  | .hbm, ⟨20, _⟩ => ⟨S4, .i1⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S4, .i32⟩
  | .hbm, ⟨25, _⟩ => ⟨S16x2048x2048, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S16x2048x512, .f32⟩
  | .hbm, ⟨30, _⟩ => ⟨S4x1, .i32⟩
  | .hbm, ⟨31, _⟩ => ⟨S1x2048, .i32⟩
  | .hbm, ⟨32, _⟩ => ⟨S4x2048, .i32⟩
  | .hbm, ⟨33, _⟩ => ⟨S4x2048, .i32⟩
  | .hbm, ⟨34, _⟩ => ⟨S4x2048, .i32⟩
  | .hbm, ⟨35, _⟩ => ⟨S4x1, .i32⟩
  | .hbm, ⟨36, _⟩ => ⟨S1x2048, .i32⟩
  | .hbm, ⟨37, _⟩ => ⟨S4x2048, .i32⟩
  | .hbm, ⟨38, _⟩ => ⟨S4x2048, .i32⟩
  | .hbm, ⟨39, _⟩ => ⟨S4x2048, .i32⟩
  | .hbm, ⟨40, _⟩ => ⟨S4x2048x1, .i32⟩
  | .hbm, ⟨41, _⟩ => ⟨S1x1x2048, .i32⟩
  | .hbm, ⟨42, _⟩ => ⟨S4x2048x2048, .i32⟩
  | .hbm, ⟨43, _⟩ => ⟨S4x2048x2048, .i32⟩
  | .hbm, ⟨44, _⟩ => ⟨S4x2048x2048, .i1⟩
  | .hbm, ⟨45, _⟩ => ⟨S4x2048x1, .i32⟩
  | .hbm, ⟨46, _⟩ => ⟨S1x1x2048, .i32⟩
  | .hbm, ⟨47, _⟩ => ⟨S4x2048x2048, .i32⟩
  | .hbm, ⟨48, _⟩ => ⟨S4x2048x2048, .i32⟩
  | .hbm, ⟨49, _⟩ => ⟨S4x2048x2048, .i1⟩
  | .hbm, ⟨50, _⟩ => ⟨S4x2048x2048, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S4x2048, .i32⟩
  | .hbm, ⟨55, _⟩ => ⟨S4x2048, .i32⟩
  | .hbm, ⟨56, _⟩ => ⟨S_, .i32⟩
  | .hbm, ⟨57, _⟩ => ⟨S4x2048, .i32⟩
  | .hbm, ⟨58, _⟩ => ⟨S4x2048, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S4x2048, .i32⟩
  | .hbm, ⟨63, _⟩ => ⟨S4x2048, .i32⟩
  | .hbm, ⟨64, _⟩ => ⟨S_, .i32⟩
  | .hbm, ⟨65, _⟩ => ⟨S4x2048, .i32⟩
  | .hbm, ⟨66, _⟩ => ⟨S4x2048, .i32⟩
  | .hbm, ⟨67, _⟩ => ⟨S4x2048, .i32⟩
  | .hbm, ⟨68, _⟩ => ⟨S4x2048, .f32⟩
  | .hbm, ⟨69, _⟩ => ⟨S16x2048x4x128, .f32⟩
  | .hbm, ⟨70, _⟩ => ⟨S4x2048x2048, .f32⟩
  | .hbm, ⟨71, _⟩ => ⟨S4x16x128x2048, .f32⟩
  | .hbm, ⟨72, _⟩ => ⟨S16x2048x4x128, .f32⟩
  | .hbm, ⟨73, _⟩ => ⟨S2048x4, .f32⟩
  | .hbm, ⟨74, _⟩ => ⟨S1x2048x4x1, .f32⟩
  | .hbm, ⟨75, _⟩ => ⟨S16x2048x4x128, .f32⟩
  | .hbm, ⟨76, _⟩ => ⟨S16x2048x4x128, .f32⟩
  | .hbm, ⟨77, _⟩ => ⟨S16x2048x4x128, .f32⟩
  | .hbm, ⟨78, _⟩ => ⟨S4x128x16x2048, .f32⟩
  | .hbm, ⟨79, _⟩ => ⟨S16x2048x4x128, .f32⟩
  | .hbm, ⟨80, _⟩ => ⟨S16x2048x512, .f32⟩
  | .hbm, ⟨81, _⟩ => ⟨S1x1x512, .f32⟩
  | .hbm, ⟨82, _⟩ => ⟨S16x2048x512, .f32⟩
  | .hbm, ⟨83, _⟩ => ⟨S16x2048x512, .f32⟩
  | .hbm, ⟨84, _⟩ => ⟨S16x2048x512, .f32⟩
  | .hbm, ⟨85, _⟩ => ⟨S_, .i32⟩
  | .hbm, ⟨86, _⟩ => ⟨S_, .f32⟩
  | .hbm, ⟨87, _⟩ => ⟨S16x2050x512, .f32⟩
  | .hbm, ⟨88, _⟩ => ⟨S16x2048x512, .f32⟩
  | .hbm, ⟨89, _⟩ => ⟨S1x512, .f32⟩
  | .hbm, ⟨90, _⟩ => ⟨S512, .f32⟩
  | .hbm, ⟨91, _⟩ => ⟨S1x1x512, .f32⟩
  | .hbm, ⟨92, _⟩ => ⟨S16x2048x512, .f32⟩
  | .hbm, ⟨93, _⟩ => ⟨S16x2048x512, .f32⟩
  | .hbm, ⟨94, _⟩ => ⟨S16x2048x512, .f32⟩
  | .hbm, ⟨95, _⟩ => ⟨S1x512, .f32⟩
  | .hbm, ⟨96, _⟩ => ⟨S512, .f32⟩
  | .hbm, ⟨97, _⟩ => ⟨S1x1x512, .f32⟩
  | .hbm, ⟨98, _⟩ => ⟨S16x2048x512, .f32⟩
  | .hbm, ⟨99, _⟩ => ⟨S16x2048x512, .f32⟩
  | .hbm, ⟨100, _⟩ => ⟨S16x2048x512, .f32⟩
  | .hbm, ⟨101, _⟩ => ⟨S16x2048x512, .f32⟩
  | .hbm, ⟨102, _⟩ => ⟨S1x512, .f32⟩
  | .hbm, ⟨103, _⟩ => ⟨S512, .f32⟩
  | .hbm, ⟨104, _⟩ => ⟨S1x1x512, .f32⟩
  | .hbm, ⟨105, _⟩ => ⟨S16x2048x512, .f32⟩
  | .hbm, ⟨106, _⟩ => ⟨S16x2048x512, .f32⟩
  | .hbm, ⟨107, _⟩ => ⟨S16x2048x512, .f32⟩
  | .hbm, ⟨108, _⟩ => ⟨S16x2048x512, .f32⟩
  | .hbm, ⟨109, _⟩ => ⟨S16x2048x1024, .f32⟩
  | .hbm, ⟨110, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_1 : Ref sig .tc := ⟨.hbm, 51, rfl⟩
abbrev main_c_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v28 : Ref sig .tc := ⟨.hbm, 58, rfl⟩
abbrev main_c_3 : Ref sig .tc := ⟨.hbm, 59, rfl⟩
abbrev main_c_4 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_5 : Ref sig .tc := ⟨.hbm, 85, rfl⟩
abbrev main_call3_v0 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Experts.Body.lean ====
/- What one grid point of the expert feed-forward kernel does to its staging buffers.

   The body reads the number of used blocks from its second table; at a used block it stores the expert's output of the 256 rows it was
   handed, at a block past the used ones it stores zeros. Both stores cover the whole output buffer. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The two prefetched tables as the body is handed them: each block's expert, and the number of used blocks. -/
abbrev tabE : Memref sig .tc .smem S544 .i32 := Memref.whole main_arg0
abbrev tabN : Memref sig .tc .smem S1 .i32 := Memref.whole main_arg1

/-- A table's contents on core `c`, and half of the table held at `f`: the other half stays with the pipeline. -/
abbrev TabBuf (c : Dev nD) {S : Shape} (M : Memref sig .tc .smem S .i32) : Type := Buf (Elt F) (M.view.loc (c : Thread nD τ))
abbrev tabPt (c : Dev nD) {S : Shape} (M : Memref sig .tc .smem S .i32) (f : TabBuf (F := F) c M) : sProp 𝕄 :=
  M.view.loc (c : Thread nD τ) ↦{fullShare.right} f

/-- The one index of the table of one word. -/
def word0 : S1.Idx := fun a => ⟨0, by fin_cases a; decide⟩

/-- What the body leaves in its output block at grid point `i` when `n` blocks are used: the expert's output of the rows `x0` if the point is
    below `n`, zeros otherwise. -/
def blockOut (i : grid0.Coords) (n : BitVec 32) (x0 : Vec F S256x1024 .bf16) (x1 x2 : Vec F S1x1024x1024 .bf16)
    (x3 x4 : Vec F S1x1x1024 .f32) (x5 : Vec F S1x1024x1024 .bf16) (x6 : Vec F S1x1x1024 .f32) : FVec F S256x1024 .bf16 :=
  if k0_cond1 i n = 1#1 then k0_pay1 (k0_pay3 x0 x1 x3 x2 x4 x5) x6 else k0_pay2

theorem hz2 : (![0, 0] : Fin 2 → Nat) = fun _ => 0 := funext fun a => by fin_cases a <;> rfl
theorem hz3 : (![0, 0, 0] : Fin 3 → Nat) = fun _ => 0 := funext fun a => by fin_cases a <;> rfl

/-- A point is past the used blocks exactly when it is not below their number. -/
theorem cond2_iff (i : grid0.Coords) (n : BitVec 32) : k0_cond2 i n = 1#1 ↔ ¬ k0_cond1 i n = 1#1 := by
  unfold k0_cond2 k0_cond1
  generalize BitVec.ofNat 32 (i 0).val = a
  have e : ∀ b : Bool, (((BitVec.ofBool b).setWidth 32 != 0#32) : Bool) = b := by decide
  have h1 : ∀ b : Bool, (BitVec.ofBool b = 1#1) ↔ b = true := by decide
  show BitVec.ofBool ((BitVec.ofBool (n.sle a)).setWidth 32 != 0#32) = 1#1 ↔
    ¬ BitVec.ofBool ((BitVec.ofBool (a.slt n)).setWidth 32 != 0#32) = 1#1
  rw [e, e, h1, h1, BitVec.sle_iff_toInt_le, BitVec.slt_iff_toInt_lt]
  omega

set_option maxHeartbeats 1000000 in
theorem body (c : Dev nD) (i : grid0.Coords)
    (arg3 : Memref sig .tc .vmem S256x1024 .bf16) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .bf16) (harg8 : arg8.IsWhole)
    (arg9 : Memref sig .tc .vmem S1x1x1024 .f32) (harg9 : arg9.IsWhole) (arg10 : Memref sig .tc .vmem S256x1024 .bf16) (harg10 : arg10.IsWhole)
    (x0 : Vec F S256x1024 .bf16) (x1 x2 : Vec F S1x1024x1024 .bf16) (x3 x4 : Vec F S1x1x1024 .f32) (x5 : Vec F S1x1024x1024 .bf16)
    (x6 : Vec F S1x1x1024 .f32) (xt0 : TabBuf (F := F) c tabE) (xt1 : TabBuf (F := F) c tabN) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d) ∗ tabPt c tabE xt0 ∗ tabPt c tabN xt1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6
            ∗ owns (c : Thread nD τ) arg10 fullShare (blockOut i (xt1 word0) x0 x1 x2 x3 x4 x5 x6)
            ∗ tabPt c tabE xt0 ∗ tabPt c tabN xt1) -∗ K ⟨⟩))
      ⊢ wp frame (wpE (defs₀ (F := F)) Variants.none c none) E
          (cc0_experts i tabE (Memref.isWhole_whole _) tabN (Memref.isWhole_whole _) arg3 harg3 arg4 harg4 arg5 harg5 arg6 harg6 arg7 harg7
            arg8 harg8 arg9 harg9 arg10 harg10) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap
    · iexact H7
    ipureintro
    have hw : body.sl.r c xt1 = xt1 word0 := by
      unfold body.sl.r
      exact congrArg xt1 (funext fun a => Fin.ext (by fin_cases a; rfl))
    rw [hw]
    unfold body.sl.r_1 blockOut
    by_cases hc : k0_cond1 i (xt1 word0) = 1#1
    · rw [dif_neg (fun h => (cond2_iff _ _).mp h hc), dif_pos hc, if_pos hc, View.read_writes_full]
      simp only [View.readAt_eq_ld, hf0, hf1, hf2, hf3, hf4, hf5, hf6, View.ld_unit_zero (S := S256x1024) hz2,
        View.ld_unit_zero (S := S1x1024x1024) hz3, View.ld_unit_zero (S := S1x1x1024) hz3]
    · rw [dif_pos ((cond2_iff _ _).mpr hc), if_neg hc, View.read_writes_full]
  isplitl [HT0]; · iexact HT0
  iexact HT1

end Cert.KernelIdeal.Experts

end
-- ==== Proof.Experts.Launch.lean ====
/-
  The launch of the experts' kernel: what the pipeline's arrays hold when it starts, what each staging buffer holds at each grid
  point, the body's triple at every point, and the run: every argument is left unchanged and the result is the pipeline's output
  array, assembled from the blocks `blockOut`.
-/
module

public import proofs.«01_k».proof.Proof.Experts.Body
public import Idealize.ShloMosaic.Lib.Pipeline.Kit
public import Idealize.ShloMosaic.Lib.Claim

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- Core `c`'s buffers when the kernel starts: the weights sliced and cast, the biases reshaped. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The seven arguments' references. -/
def isArg (b : Ref sig .tc) : Prop :=
  b = main_arg0 ∨ b = main_arg1 ∨ b = main_arg2 ∨ b = main_arg3 ∨ b = main_arg4 ∨ b = main_arg5 ∨ b = main_arg6

/-- No host operation writes an argument. -/
theorem V_arg (c : Dev nD) (b : Ref sig .tc) (hb : isArg b) : V m c b = m ((c : Thread nD τ).loc b) := by
  refine StableHlo.after_of_forall_not_mem (b := Proc.devRef .tc b) _ _ (List.forall_iff_forall_mem.mp ?_)
  simp only [hostOps0, List.Forall, StableHlo.unary_writes, StableHlo.reshape_writes, Finset.mem_singleton]
  rcases hb with rfl | rfl | rfl | rfl | rfl | rfl | rfl <;>
    (repeat' apply And.intro) <;> exact StableHlo.devRef_ne_of_ne (by decide)

/-! ## The two tables and the pipeline at them -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl
attribute [irreducible] tbl
/-- Every block of weights a table names lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The number of used blocks, the one word of the second table. -/
def used : BitVec 32 := (tbl m 1 : TabBuf (F := F) (0 : Dev nD) tabN) word0

/-- The output is stored at every point: it is past the used blocks exactly when it is not below their number. -/
theorem idle_7 (pf : pre0.Contents (Elt F)) (i : grid0.Coords) : idle0 pf 7 i = false :=
  have h : ∀ a b : BitVec 1, (b = 1#1 ↔ ¬ a = 1#1) → (!(a == 1#1) && !(b == 1#1)) = false := by decide
  h _ _ (cond2_iff i _)

/-! ## What each staging buffer holds -/

/-- Window `w`'s block at point `t`, read off its array as the kernel finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the output's buffer at point `t`. -/
def outAt (hO : Ok m) (c : Dev nD) (t : Fin (cfgM m hO).N) : Vec F S256x1024 .bf16 :=
  blockOut (grid0.coords t) (used m) (iblk m hO c 0 t) (iblk m hO c 1 t) (iblk m hO c 2 t) (iblk m hO c 3 t) (iblk m hO c 4 t)
    (iblk m hO c 5 t) (iblk m hO c 6 t)

/-- The pipeline's proof data: inputs are left at their blocks, the output at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

section
variable (hO : Ok m) (c : Dev nD) (t : Fin (cfgM m hO).N)
theorem after_0 : (dats m hO 0 c).after 0 t = iblk m hO c 0 t := by dsimp only [dats]; try rfl
theorem after_1 : (dats m hO 0 c).after 1 t = iblk m hO c 1 t := by dsimp only [dats]; try rfl
theorem after_2 : (dats m hO 0 c).after 2 t = iblk m hO c 2 t := by dsimp only [dats]; try rfl
theorem after_3 : (dats m hO 0 c).after 3 t = iblk m hO c 3 t := by dsimp only [dats]; try rfl
theorem after_4 : (dats m hO 0 c).after 4 t = iblk m hO c 4 t := by dsimp only [dats]; try rfl
theorem after_5 : (dats m hO 0 c).after 5 t = iblk m hO c 5 t := by dsimp only [dats]; try rfl
theorem after_6 : (dats m hO 0 c).after 6 t = iblk m hO c 6 t := by dsimp only [dats]; try rfl
theorem after_7 : (dats m hO 0 c).after 7 t = outAt m hO c t := by dsimp only [dats]; try rfl

/-! Each input's buffer holds its block before every point, fetched there or not. -/

theorem before_0 (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
      (by unfold Dat.fetched Dat.blockOf iblk; rw [A_eq]; try rfl)
theorem before_1 (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
      (by unfold Dat.fetched Dat.blockOf iblk; rw [A_eq]; try rfl)
theorem before_2 (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
      (by unfold Dat.fetched Dat.blockOf iblk; rw [A_eq]; try rfl)
theorem before_3 (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans
      (by unfold Dat.fetched Dat.blockOf iblk; rw [A_eq]; try rfl)
theorem before_4 (d) : (dats m hO 0 c).before 4 t d = iblk m hO c 4 t :=
  ((dats m hO 0 c).before_in_eq_fetched 4 rfl (fun _ => rfl) (fun _ _ _ => rfl)
    (fun t => by rw [after_4]; unfold Dat.blockOf iblk; rw [A_eq]; try rfl) t d).trans
      (by unfold Dat.fetched Dat.blockOf iblk; rw [A_eq]; try rfl)
theorem before_5 (d) : (dats m hO 0 c).before 5 t d = iblk m hO c 5 t :=
  ((dats m hO 0 c).before_in_eq_fetched 5 rfl (fun _ => rfl) (fun _ _ _ => rfl)
    (fun t => by rw [after_5]; unfold Dat.blockOf iblk; rw [A_eq]; try rfl) t d).trans
      (by unfold Dat.fetched Dat.blockOf iblk; rw [A_eq]; try rfl)
theorem before_6 (d) : (dats m hO 0 c).before 6 t d = iblk m hO c 6 t :=
  ((dats m hO 0 c).before_in_eq_fetched 6 rfl (fun _ => rfl) (fun _ _ _ => rfl)
    (fun t => by rw [after_6]; unfold Dat.blockOf iblk; rw [A_eq]; try rfl) t d).trans
      (by unfold Dat.fetched Dat.blockOf iblk; rw [A_eq]; try rfl)

/-- The output is stored at every point. -/
theorem live_7 : (cfgM m hO).idle 7 (grid0.coords t) = false := idle_7 (tbl m) (grid0.coords t)

/-- A live window is left exactly at what the body leaves. -/
theorem leaves_eq (w : Fin (cfgM m hO).W) (h : (cfgM m hO).idle w (grid0.coords t) = false) :
    (dats m hO 0 c).leavesExact w t
      = owns (c : Thread nD τ) (((cfgM m hO).win w).stage ((cfgM m hO).slots t w)) fullShare ((dats m hO 0 c).after w t) := by
  unfold Dat.leavesExact; rw [h]; try rfl
end

/-! ## The body at every point -/

/-- A window's current staging memref at point `t`. -/
abbrev stg (hO : Ok m) (t : Fin (cfgM m hO).N) (w : Fin (cfgM m hO).W) := ((cfgM m hO).win w).stage ((cfgM m hO).slots t w)

/-- The body as the pipeline calls it at point `t`. -/
abbrev bodyAt (hO : Ok m) (t : Fin (cfgM m hO).N) : Prog (TpuEff nD τ sig (Elt F) Λ₀ .tc) PUnit :=
  cc0_experts (grid0.coords t) tabE (Memref.isWhole_whole _) tabN (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    (spec0_6.stage ((cfgM m hO).slots t 6)) (hstage0_6 (((cfgM m hO).slots t 6).cast nbuf0_6))
    (spec0_7.stage ((cfgM m hO).slots t 7)) (hstage0_7 (((cfgM m hO).slots t 7).cast nbuf0_7))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg m hO t 0) fullShare ((dats m hO 0 c).before 0 t d))
    ∗ (∃ d, owns (c : Thread nD τ) (stg m hO t 1) fullShare ((dats m hO 0 c).before 1 t d))
    ∗ (∃ d, owns (c : Thread nD τ) (stg m hO t 2) fullShare ((dats m hO 0 c).before 2 t d))
    ∗ (∃ d, owns (c : Thread nD τ) (stg m hO t 3) fullShare ((dats m hO 0 c).before 3 t d))
    ∗ (∃ d, owns (c : Thread nD τ) (stg m hO t 4) fullShare ((dats m hO 0 c).before 4 t d))
    ∗ (∃ d, owns (c : Thread nD τ) (stg m hO t 5) fullShare ((dats m hO 0 c).before 5 t d))
    ∗ (∃ d, owns (c : Thread nD τ) (stg m hO t 6) fullShare ((dats m hO 0 c).before 6 t d))
    ∗ (∃ d, owns (c : Thread nD τ) (stg m hO t 7) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t
    ∗ (dats m hO 0 c).leavesExact 4 t ∗ (dats m hO 0 c).leavesExact 5 t ∗ (dats m hO 0 c).leavesExact 6 t ∗ (dats m hO 0 c).leavesExact 7 t)

set_option maxHeartbeats 1600000 in
/-- The body at a point: it finds its input blocks and leaves them, and `outAt` in the output's buffer. -/
theorem body_at (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, tables_eq,
    leaves_eq m hO c t 0 rfl, leaves_eq m hO c t 1 rfl, leaves_eq m hO c t 2 rfl, leaves_eq m hO c t 3 rfl,
    leaves_eq m hO c t 4 rfl, leaves_eq m hO c t 5 rfl, leaves_eq m hO c t 6 rfl, leaves_eq m hO c t 7 (live_7 m hO t),
    after_0, after_1, after_2, after_3, after_4, after_5, after_6, after_7]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c (grid0.coords t) _ _ _ _ _ _ _ _ _ _ _ _ _ _ _ _ (iblk m hO c 0 t) (iblk m hO c 1 t) (iblk m hO c 2 t) (iblk m hO c 3 t)
    (iblk m hO c 4 t) (iblk m hO c 5 t) (iblk m hO c 6 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  iintro ⟨H0, H1, H2, H3, H4, H5, H6, H7, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 4000000 in
theorem body_obligation (hO : Ok m) (c : Dev nD) : BodyObligation (dats (F := F) m hO 0 c) (defs₀ (F := F)) Variants.none () Set.univ := fun t => by
  rw [bigSep_W0, bigSep_W0, defs₀_row m hO]
  exact triple_restated (body_at m hO c t) rfl .rfl fun _ => .rfl

/-! ## The run -/

set_option backward.isDefEq.respectTransparency.types false in
theorem run_arrays (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The kernel's result as the pipeline assembles it. -/
def result (hO : Ok m) (c : Dev nD) : Buf (Elt F) ((c : Thread nD τ).loc main_v10) := (dats m hO 0 c).arrAt 7 (cfgM m hO).N

set_option maxHeartbeats 4000000 in
/-- The run: the arguments are kept, every counter is back at zero, and the result is `result`. -/
theorem run (hO : Ok m) : θ_run defs (onTc (τ := τ) (main (F := F))) (s₀ m ρ)
    (fun r => (∀ c : Dev nD, (∀ b, isArg b → r.2.mem ((c : Thread nD τ).loc b) = m ((c : Thread nD τ).loc b))
      ∧ r.2.mem ((c : Thread nD τ).loc main_v10) = result m hO c) ∧ r.2.sem = fun _ => 0) := by
  refine (θ_run defs _ _).mono ?_ (run_arrays m ρ hO)
  rintro r ⟨h, hs⟩
  refine ⟨fun c => ⟨fun b hb => ?_, (h c).1 7⟩, hs⟩
  rcases id hb with rfl | rfl | rfl | rfl | rfl | rfl | rfl
  · exact ((h c).2 main_arg0 (by decide : main_arg0 ∈ Pipeline.restRefs sig spec0)).trans (V_arg m c _ hb)
  · exact ((h c).2 main_arg1 (by decide : main_arg1 ∈ Pipeline.restRefs sig spec0)).trans (V_arg m c _ hb)
  · exact ((h c).1 0).trans (((dats m hO 0 c).arrAt_in 0 rfl _).trans ((A_eq m hO c 0).trans (V_arg m c _ hb)))
  · exact ((h c).2 main_arg3 (by decide : main_arg3 ∈ Pipeline.restRefs sig spec0)).trans (V_arg m c _ hb)
  · exact ((h c).2 main_arg4 (by decide : main_arg4 ∈ Pipeline.restRefs sig spec0)).trans (V_arg m c _ hb)
  · exact ((h c).2 main_arg5 (by decide : main_arg5 ∈ Pipeline.restRefs sig spec0)).trans (V_arg m c _ hb)
  · exact ((h c).2 main_arg6 (by decide : main_arg6 ∈ Pipeline.restRefs sig spec0)).trans (V_arg m c _ hb)

end Cert.KernelIdeal.Experts

end
-- ==== Proof.Experts.Table.lean ====
/-
  The table that names each block's expert: the precondition says every word of it is below 32, which is what keeps the blocks of
  weights inside their arrays.
-/
module

public import proofs.«01_k».proof.Proof.Experts.Launch
public import proofs.«01_k».proof.Proof.Gen.Pre_experts_in_range
public import Idealize.ShloMosaic.Lib.ReduceAll
public import Idealize.ShloMosaic.Lib.StableHlo.Predicate

@[expose] public section

set_option maxRecDepth 16384

noncomputable section

namespace Cert.KernelIdeal.Experts

open Idealize.ShloMosaic Idealize.ShloMosaic.TcCoe Idealize.ShloMosaic.Tactic
open Cert.KernelIdeal.Gen

variable {F : FTy → Type} [FloatOps F]

/-- The precondition read at one block: its expert's number is below 32. -/
theorem lt_of_pre (e : IVec S544 32) (n : IVec S1 32) (x : FVec F S139264x1024 .bf16) (gu : FVec F S32x1024x2048 .f32)
    (bgu : FVec F S32x2048 .f32) (wd : FVec F S32x1024x1024 .f32) (bd : FVec F S32x1024 .f32)
    (h : Cert.Pre_experts_in_range.fn (F := F) e n x gu bgu wd bd = fun _ => 1#1) (k : S544.Idx) : (e k).toNat < 32 := by
  have e1 := congrFun h (fun a => a.elim0)
  unfold Cert.Pre_experts_in_range.fn at e1
  have : Subsingleton (Cert.Pre_experts_in_range.S_).Idx := ⟨fun a b => funext fun i => i.elim0⟩
  have e2 := Host.reduce_andi_all _ _ _ _ _ e1 k
  have key : ∀ v : BitVec 32, IntOp.andi (IntOp.cmpi .sge v 0#32) (IntOp.cmpi .slt v 32#32) = 1#1 → v.toNat < 32 := by
    intro v hv
    have hb : ∀ p q : Bool, IntOp.andi (BitVec.ofBool p) (BitVec.ofBool q) = 1#1 → p = true ∧ q = true := by decide
    obtain ⟨h1, h2⟩ := hb _ _ hv
    simp only [BitVec.sle_eq_decide, BitVec.slt_eq_decide, decide_eq_true_eq, BitVec.toInt_eq_toNat_cond, BitVec.toNat_ofNat,
      Nat.reducePow, Nat.reduceMod] at h1 h2
    omega
  exact key _ e2

/-- The table index of a grid point. -/
def blockIx (i : grid0.Coords) : S544.Idx := fun a => ⟨(i 0).val, by fin_cases a; exact (i 0).isLt⟩

/-- The first table's words, as integers. -/
abbrev wordsE (pf : pre0.Contents (Elt F)) : IVec S544 32 := pf 0

/-- The word the index maps read is the table's at the grid point. -/
theorem at_eq (pf : pre0.Contents (Elt F)) (i : grid0.Coords) :
    pf.at 0 (Rect.unit (s := S544) (k0_off1 i) S1.size (k0_off1_inb i)) numel1_S1 = wordsE pf (blockIx i) := by
  refine congrArg (wordsE pf) (funext fun a => Fin.ext ?_)
  have h : (i 0).val < 544 := (i 0).isLt
  fin_cases a
  have h0 : ∀ y : S1.Idx, (y 0).val = 0 := fun y => Nat.lt_one_iff.mp (y 0).isLt
  show (BitVec.ofNat 32 (i 0).val).toNat + 1 * ((Shape.Idx.first (s := S1) _ : S1.Idx) 0).val = (i 0).val
  rw [h0, BitVec.toNat_ofNat]
  omega

/-- Each window of weights is at the expert's number, along its first axis. -/
theorem transform_1_eq (pf : pre0.Contents (Elt F)) (i : grid0.Coords) :
    cc0_transform_1 k0_off1_inb numel1_S1 pf i = ![(wordsE pf (blockIx i)).toNat, 0, 0] :=
  congrArg (fun w : BitVec 32 => (![w.toNat, 0, 0] : Fin 3 → ℕ)) (at_eq pf i)

/-- The bound every window of weights needs: its block is one expert's, and the expert's number is below 32. -/
theorem inside (n : ℕ) (hn : n < 32) (r l : ℕ) : ∀ a, ((![n, 0, 0] : Fin 3 → ℕ) a + 1) * (![1, r, l] : Fin 3 → ℕ) a ≤ (![32, r, l] : Fin 3 → ℕ) a := by
  intro a
  fin_cases a
  · show (n + 1) * 1 ≤ 32; omega
  · show (0 + 1) * r ≤ r; omega
  · show (0 + 1) * l ≤ l; omega

/-- The pipeline's side condition follows from the words' bound. -/
theorem ok_of_lt (pf : pre0.Contents (Elt F)) (h : ∀ i : grid0.Coords, (wordsE pf (blockIx i)).toNat < 32) : ok0 pf := by
  have hb : ∀ i : grid0.Coords, (pf.at 0 (Rect.unit (s := S544) (k0_off1 i) S1.size (k0_off1_inb i)) numel1_S1 : BitVec 32).toNat < 32 :=
    fun i => lt_of_eq_of_lt (congrArg BitVec.toNat (at_eq pf i)) (h i)
  have h2 : 2 ≤ S32x1024x1024.rank := by decide
  exact ⟨fun i => ⟨inside _ (hb i) 1024 1024, .inr (Affine.block_words_rows h2 rfl)⟩,
    fun i => ⟨inside _ (hb i) 1024 1024, .inr (Affine.block_words_rows h2 rfl)⟩,
    fun i => ⟨inside _ (hb i) 1 1024, .inl rfl⟩,
    fun i => ⟨inside _ (hb i) 1 1024, .inl rfl⟩,
    fun i => ⟨inside _ (hb i) 1024 1024, .inr (Affine.block_words_rows h2 rfl)⟩,
    fun i => ⟨inside _ (hb i) 1 1024, .inl rfl⟩⟩

variable (m : (ℓ : Loc nD τ sig) → Buf (Elt F) ℓ)

/-- The tables are the first two arguments. -/
theorem tbl_0 : tbl m 0 = m (((0 : Dev nD) : Thread nD τ).loc main_arg0) := by
  unfold tbl; exact V_arg m 0 main_arg0 (.inl rfl)
theorem tbl_1 : tbl m 1 = m (((0 : Dev nD) : Thread nD τ).loc main_arg1) := by
  unfold tbl; exact V_arg m 0 main_arg1 (.inr (.inl rfl))

theorem ok_of_pre (h : ∀ c : Dev nD, Cert.Pre_experts_in_range.fn (F := F) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
        = fun _ => 1#1) : Ok m :=
  ok_of_lt _ fun i => by
    rw [show wordsE (tbl m) = _ from tbl_0 m]; exact lt_of_pre _ _ _ _ _ _ _ (h 0) _

end Cert.KernelIdeal.Experts

end
-- ==== Proof.Experts.Frame.lean ====
/-
  The frame of the experts' kernel: every run ends with the arguments as they were and every counter at zero. The program and its
  idealization are the same text, so one proof serves both.
-/
module
public import proofs.«01_k».proof.Defs
public import proofs.«01_k».proof.Proof.Experts.Table
public import proofs.«01_k».proof.Proof.Gen.Kernel.Launch

@[expose] public section

set_option maxRecDepth 16384

noncomputable section

namespace Cert.Kernel.Experts
open Idealize.ShloMosaic Idealize.ShloMosaic.TcCoe Idealize.ShloMosaic.Tactic Idealize.SL.Sem
open Cert.Kernel Cert.Kernel.Gen
variable {F : FTy → Type} [FloatOps F]

/-- What a frame says of a run: arguments kept, counters at zero. -/
def Framed (m : (ℓ : Loc nD τ sig) → Buf (Elt F) ℓ) (ρ : Dev nD → PrngReg) : Prop :=
  θ_run (Cert.Kernel.defs (F := F)) (onTc (τ := Cert.Kernel.τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

end Cert.Kernel.Experts
namespace Cert.KernelIdeal.Experts
open Idealize.ShloMosaic Idealize.ShloMosaic.TcCoe Idealize.ShloMosaic.Tactic Idealize.SL.Sem
open Cert.KernelIdeal Cert.KernelIdeal.Gen
variable {F : FTy → Type} [FloatOps F]
/-- The same of the idealization. -/
def Framed (m : (ℓ : Loc nD τ sig) → Buf (Elt F) ℓ) (ρ : Dev nD → PrngReg) : Prop :=
  θ_run (Cert.KernelIdeal.defs (F := F)) (onTc (τ := Cert.KernelIdeal.τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

/-- The program and its idealization are one text, so one statement about their runs. -/
theorem framed_eq : @Cert.Kernel.Experts.Framed F _ = @Framed F _ := by
  sl_kernel_rfl

/-- The frame, wherever every block of weights lies inside its array. -/
theorem framed (m : (ℓ : Loc nD τ sig) → Buf (Elt F) ℓ) (ρ : Dev nD → PrngReg) (hO : Ok m) : Framed m ρ :=
  (θ_run defs _ _).mono (fun r h => ⟨fun c => ⟨(h.1 c).1 _ (.inl rfl), (h.1 c).1 _ (.inr (.inl rfl)), (h.1 c).1 _ (.inr (.inr (.inl rfl))),
    (h.1 c).1 _ (.inr (.inr (.inr (.inl rfl)))), (h.1 c).1 _ (.inr (.inr (.inr (.inr (.inl rfl))))),
    (h.1 c).1 _ (.inr (.inr (.inr (.inr (.inr (.inl rfl)))))), (h.1 c).1 _ (.inr (.inr (.inr (.inr (.inr (.inr rfl))))))⟩, h.2⟩) (run m ρ hO)

theorem frame_ideal : Cert.quiescent_KernelIdeal := fun m ρ h => framed m ρ (ok_of_pre m h)

theorem frame_kernel : Cert.quiescent_Kernel := fun m ρ h =>
  (congrFun (congrFun (framed_eq (F := Bits)) m) ρ).mpr (framed (F := Bits) m ρ (ok_of_pre m h))

end Cert.KernelIdeal.Experts

end
-- ==== Proof.Experts.Weights.lean ====
/-
  The arrays the pipeline reads, as the host leaves them: the even columns of the first weights and biases are the gates', the odd
  ones the linear part's, and the reshapes only add axes of size one.
-/
module

public import proofs.«01_k».proof.Proof.Experts.Launch
public import Idealize.ShloMosaic.Lib.StableHlo.Run
public import Idealize.ShloMosaic.Lib.Pointwise

@[expose] public section

set_option maxRecDepth 16384

noncomputable section

namespace Cert.KernelIdeal.Experts

open Idealize.ShloMosaic Idealize.ShloMosaic.TcCoe Idealize.ShloMosaic.Tactic Idealize.ShloMosaic.StableHlo
open Idealize.ShloMosaic.Pointwise
open Cert.KernelIdeal.Gen

variable (m : (ℓ : Loc nD τ sig) → Buf (Elt Ideal) ℓ) (c : Dev nD)

/-- The weights and biases the launch is given. -/
abbrev gu : FVec Ideal S32x1024x2048 .f32 := m ((c.tc : Thread nD τ).loc main_arg3)
abbrev wdn : FVec Ideal S32x1024x1024 .f32 := m ((c.tc : Thread nD τ).loc main_arg5)
abbrev bdn : FVec Ideal S32x1024 .f32 := m ((c.tc : Thread nD τ).loc main_arg6)
abbrev bgu : FVec Ideal S32x2048 .f32 := m ((c.tc : Thread nD τ).loc main_arg4)

/-- Each array the host prepares, as an operation on the argument. -/
theorem V_1 : V m c main_v1 = truncf .bf16 (Host.slice S32x1024x1024 ![0, 0, 0] ![1, 1, 2] (gu m c) slicesBy_S32x1024x2048_S32x1024x1024_0s1_0s1_0s2) bitsLt_bf16_f32 := by
  unfold V; simp only [hostOps0]; after_results_simp <;> rfl
theorem V_3 : V m c main_v3 = truncf .bf16 (Host.slice S32x1024x1024 ![0, 0, 1] ![1, 1, 2] (gu m c) slicesBy_S32x1024x2048_S32x1024x1024_0s1_0s1_1s2) bitsLt_bf16_f32 := by
  unfold V; simp only [hostOps0]; after_results_simp <;> rfl
theorem V_5 : V m c main_v5 = shapeCast S32x1x1024 (Host.slice S32x1024 ![0, 0] ![1, 2] (bgu m c) slicesBy_S32x2048_S32x1024_0s1_0s2) shapeCasts_S32x1024_S32x1x1024 := by
  unfold V; simp only [hostOps0]; after_results_simp <;> rfl
theorem V_7 : V m c main_v7 = shapeCast S32x1x1024 (Host.slice S32x1024 ![0, 1] ![1, 2] (bgu m c) slicesBy_S32x2048_S32x1024_0s1_1s2) shapeCasts_S32x1024_S32x1x1024 := by
  unfold V; simp only [hostOps0]; after_results_simp <;> rfl
theorem V_8 : V m c main_v8 = truncf (s := S32x1024x1024) .bf16 (wdn m c) bitsLt_bf16_f32 := by
  unfold V; simp only [hostOps0]; after_results_simp <;> rfl
theorem V_9 : V m c main_v9 = shapeCast S32x1x1024 (bdn m c) shapeCasts_S32x1024_S32x1x1024 := by
  unfold V; simp only [hostOps0]; after_results_simp <;> rfl

/-- The gate weights are the even columns, -/
theorem wg_apply (e : Fin 32) (k j : Fin 1024) : (V m c main_v1 : FVec Ideal S32x1024x1024 .bf16) (ix3 e k j) = gu m c (ix3 e k ⟨2 * j.val, by omega⟩) := by
  rw [V_1]; pointwise
/-- the linear weights the odd ones, -/
theorem wl_apply (e : Fin 32) (k j : Fin 1024) : (V m c main_v3 : FVec Ideal S32x1024x1024 .bf16) (ix3 e k j) = gu m c (ix3 e k ⟨1 + 2 * j.val, by omega⟩) := by
  rw [V_3]; pointwise
/-- and so for their biases. -/
theorem bg_apply (e : Fin 32) (j : Fin 1024) : (V m c main_v5 : FVec Ideal S32x1x1024 .f32) (ix3 e 0 j) = bgu m c (ix2 e ⟨2 * j.val, by omega⟩) := by
  rw [V_5]; pointwise
theorem bl_apply (e : Fin 32) (j : Fin 1024) : (V m c main_v7 : FVec Ideal S32x1x1024 .f32) (ix3 e 0 j) = bgu m c (ix2 e ⟨1 + 2 * j.val, by omega⟩) := by
  rw [V_7]; pointwise
theorem wd_apply (e : Fin 32) (j o : Fin 1024) :
    (V m c main_v8 : FVec Ideal S32x1024x1024 .bf16) (ix3 e j o) = (wdn m c) (ix3 e j o) := by
  rw [V_8]; pointwise
theorem bd_apply (e : Fin 32) (o : Fin 1024) :
    (V m c main_v9 : FVec Ideal S32x1x1024 .f32) (ix3 e 0 o) = (bdn m c) (ix2 e o) := by
  rw [V_9]; pointwise

end Cert.KernelIdeal.Experts

end
-- ==== Proof.Experts.Payload.lean ====
/-
  The expert feed-forward at one row and one output column, in plain formulas, and the kernel's block read that way.
-/
module

public import proofs.«01_k».proof.Proof.Gen.KernelIdeal.Skeleton
public import Idealize.ShloMosaic.Lib.Pointwise

@[expose] public section

set_option maxRecDepth 16384

noncomputable section

namespace Cert.KernelIdeal.Experts

open Idealize.ShloMosaic Idealize.ShloMosaic.TcCoe Idealize.ShloMosaic.Tactic
open Idealize.ShloMosaic.Pointwise
open Cert.KernelIdeal.Gen

/-- The activation of one hidden unit: the clamped gate times its sigmoid (at slope 1.702), times the clamped linear part plus one. -/
def act (g l : EReal) : EReal :=
  min g (Ideal.ofBits .f32 0x40E00000#32)
    * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- One column of one row of an expert's output: the row times the gate and linear weights, the activation, times the down weights. -/
def expertOut (x : Fin 1024 → EReal) (wg wl : Fin 1024 → Fin 1024 → EReal) (bg bl : Fin 1024 → EReal) (wd : Fin 1024 → EReal)
    (bd : EReal) : EReal :=
  (∑ j : Fin 1024, act ((∑ k : Fin 1024, x k * wg k j) + bg j) ((∑ k : Fin 1024, x k * wl k j) + bl j) * wd j) + bd

/-- The kernel's stored block at row `t`, column `o`. -/
theorem pay_apply (x : Vec Ideal S256x1024 .bf16) (wg wl : Vec Ideal S1x1024x1024 .bf16) (bg bl : Vec Ideal S1x1x1024 .f32)
    (wd : Vec Ideal S1x1024x1024 .bf16) (bd : Vec Ideal S1x1x1024 .f32) (t : Fin 256) (o : Fin 1024) :
    k0_pay1 (F := Ideal) (k0_pay3 x wg bg wl bl wd) bd (ix2 t o)
      = expertOut (fun k => x (ix2 t k)) (fun k j => wg (ix3 0 k j)) (fun k j => wl (ix3 0 k j)) (fun j => bg (ix3 0 0 j))
          (fun j => bl (ix3 0 0 j)) (fun j => wd (ix3 0 j o)) (bd (ix3 0 0 o)) := by
  pointwise [k0_pay1, k0_pay3]
  rfl

/-- The block the kernel stores past the used blocks is zero. -/
theorem zero_apply (t : Fin 256) (o : Fin 1024) : (k0_pay2 (F := Ideal)) (ix2 t o) = 0 := by
  pointwise [k0_pay2]

/-- The expert of each block: the block's word as a number below 32. -/
def expertOf (be : Vec Ideal S544 .i32) (h : ∀ n : Fin 544, (be (ix1 n)).toNat < 32) (n : Fin 544) : Fin 32 := ⟨(be (ix1 n)).toNat, h n⟩

/-- The experts' result at row `r` and column `o`: row `r` lies in block `r / 256`; where that block is used, the feed-forward of the
    block's expert (gate weights in the even columns, linear weights in the odd ones), elsewhere zero. -/
def spec (be : Vec Ideal S544 .i32) (h : ∀ n : Fin 544, (be (ix1 n)).toNat < 32) (nu : Vec Ideal S1 .i32) (x : Vec Ideal S139264x1024 .bf16)
    (gu : Vec Ideal S32x1024x2048 .f32) (bgu : Vec Ideal S32x2048 .f32) (wd : Vec Ideal S32x1024x1024 .f32) (bd : Vec Ideal S32x1024 .f32)
    (r : Fin 139264) (o : Fin 1024) : EReal :=
  let n : Fin 544 := ⟨r.val / 256, by omega⟩
  let e := expertOf be h n
  Scalar.select (IntOp.cmpi .slt (BitVec.ofNat 32 n.val) (nu (ix1 0)))
    (expertOut (fun k => x (ix2 r k)) (fun k j => gu (ix3 e k ⟨2 * j.val, by omega⟩)) (fun k j => gu (ix3 e k ⟨1 + 2 * j.val, by omega⟩))
      (fun j => bgu (ix2 e ⟨2 * j.val, by omega⟩)) (fun j => bgu (ix2 e ⟨1 + 2 * j.val, by omega⟩)) (fun j => wd (ix3 e j o)) (bd (ix2 e o)))
    0

/-- The result at row `a` of block `n`. -/
theorem spec_block (be : Vec Ideal S544 .i32) (h : ∀ n : Fin 544, (be (ix1 n)).toNat < 32) (nu : Vec Ideal S1 .i32) (x : Vec Ideal S139264x1024 .bf16)
    (gu : Vec Ideal S32x1024x2048 .f32) (bgu : Vec Ideal S32x2048 .f32) (wd : Vec Ideal S32x1024x1024 .f32) (bd : Vec Ideal S32x1024 .f32)
    (n : Fin 544) (a : Fin 256) (r : Fin 139264) (hr : r.val = n.val * 256 + a.val) (o : Fin 1024) (e : Fin 32) (he : e = expertOf be h n) :
    spec be h nu x gu bgu wd bd r o = Scalar.select (IntOp.cmpi .slt (BitVec.ofNat 32 n.val) (nu (ix1 0)))
      (expertOut (fun k => x (ix2 r k)) (fun k j => gu (ix3 e k ⟨2 * j.val, by omega⟩)) (fun k j => gu (ix3 e k ⟨1 + 2 * j.val, by omega⟩))
        (fun j => bgu (ix2 e ⟨2 * j.val, by omega⟩)) (fun j => bgu (ix2 e ⟨1 + 2 * j.val, by omega⟩)) (fun j => wd (ix3 e j o)) (bd (ix2 e o)))
      0 := by
  subst he
  obtain ⟨n, hn⟩ := n
  obtain rfl : n = r.val / 256 := by dsimp only at hr; omega
  rfl

end Cert.KernelIdeal.Experts

end
-- ==== Proof.Experts.Array.lean ====
/-
  What the kernel's result holds: each window's block at coordinates, what each point stores, and the array the blocks tile.
-/
module

public import proofs.«01_k».proof.Proof.Experts.Weights
public import proofs.«01_k».proof.Proof.Experts.Table
public import proofs.«01_k».proof.Proof.Experts.Payload
public import Idealize.ShloMosaic.Lib.Pipeline.ValueKit.Geometry

@[expose] public section

set_option maxRecDepth 16384

noncomputable section

namespace Cert.KernelIdeal.Experts

open Idealize.ShloMosaic Idealize.ShloMosaic.TcCoe Idealize.ShloMosaic.Tactic Idealize.ShloMosaic.StableHlo
open Cert.KernelIdeal.Gen

variable (m : (ℓ : Loc nD τ sig) → Buf (Elt Ideal) ℓ) (c : Dev nD) (hO : Ok m) (t : Fin (cfgM m hO).N)

/-- The point's number along the one grid axis. -/
def blockNo : Fin 544 := grid0.coords t 0

/-- The word the index maps read at a point. -/
abbrev word : BitVec 32 := wordsE (tbl m) (blockIx (grid0.coords t))

/-- The rows' block: 256 rows from `256 t`. -/
theorem x_block (a : Fin 256) (k : Fin 1024) :
    (iblk m hO c 0 t : FVec Ideal S256x1024 .bf16) (ix2 a k)
      = (m ((c.tc : Thread nD τ).loc main_arg2) : FVec Ideal S139264x1024 .bf16) (ix2 ⟨(blockNo m hO t).val * 256 + a.val, by omega⟩ k) := by
  have hV : V m c main_arg2 = m ((c.tc : Thread nD τ).loc main_arg2) := V_arg m c main_arg2 (.inr (.inr (.inl rfl)))
  rw [← hV]
  unfold iblk
  refine congrArg (V m c main_arg2) (funext fun b => Fin.ext ?_)
  have ht : (grid0.coords t 0).val < 544 := (grid0.coords t 0).isLt
  match b with
  | ⟨0, _⟩ =>
    show (BitVec.ofNat 32 (grid0.coords t 0).val).toNat * 256 + 1 * a.val = (grid0.coords t 0).val * 256 + a.val
    rw [BitVec.toNat_ofNat]; omega
  | ⟨1, _⟩ => show 0 * 1024 + 1 * k.val = k.val; omega

/-- An index of a stack of 32 matrices `[R, L]` whose coordinates are a block's offset plus a place in the block, the block being one
    matrix, is that place of the matrix. -/
theorem stack_ix (R L : ℕ) (idx : Fin 3 → ℕ) (w : ℕ) (hidx : idx = ![w, 0, 0]) (e : Fin 32) (he : w = e.val) (k : Fin R) (j : Fin L)
    (y : (⟨3, ![32, R, L]⟩ : Shape).Idx) (hy : ∀ b : Fin 3, (y b).val = idx b * (![1, R, L] : Fin 3 → ℕ) b + 1 * (![0, k.val, j.val] : Fin 3 → ℕ) b) :
    y = ix3 e k j := by
  refine funext fun b => Fin.ext ?_
  refine (hy b).trans ?_
  rw [hidx]
  match b with
  | ⟨0, _⟩ => show w * 1 + 1 * 0 = e.val; omega
  | ⟨1, _⟩ => show 0 * R + 1 * k.val = k.val; omega
  | ⟨2, _⟩ => show 0 * L + 1 * j.val = j.val; omega

section
variable (e : Fin 32) (he : (word m hO t).toNat = e.val)
include he

/-- The block of each array of weights and of biases is the expert's. -/
theorem wg_block (k j : Fin 1024) :
    (iblk m hO c 1 t : FVec Ideal S1x1024x1024 .bf16) (ix3 0 k j) = (V m c main_v1 : FVec Ideal S32x1024x1024 .bf16) (ix3 e k j) :=
  congrArg (V m c main_v1) (stack_ix 1024 1024 _ _ (transform_1_eq (tbl m) (grid0.coords t)) e he k j _ fun b => by fin_cases b <;> rfl)
theorem wl_block (k j : Fin 1024) :
    (iblk m hO c 2 t : FVec Ideal S1x1024x1024 .bf16) (ix3 0 k j) = (V m c main_v3 : FVec Ideal S32x1024x1024 .bf16) (ix3 e k j) :=
  congrArg (V m c main_v3) (stack_ix 1024 1024 _ _ (transform_1_eq (tbl m) (grid0.coords t)) e he k j _ fun b => by fin_cases b <;> rfl)
theorem bg_block (j : Fin 1024) :
    (iblk m hO c 3 t : FVec Ideal S1x1x1024 .f32) (ix3 0 0 j) = (V m c main_v5 : FVec Ideal S32x1x1024 .f32) (ix3 e 0 j) :=
  congrArg (V m c main_v5) (stack_ix 1 1024 _ _ (transform_1_eq (tbl m) (grid0.coords t)) e he 0 j _ fun b => by fin_cases b <;> rfl)
theorem bl_block (j : Fin 1024) :
    (iblk m hO c 4 t : FVec Ideal S1x1x1024 .f32) (ix3 0 0 j) = (V m c main_v7 : FVec Ideal S32x1x1024 .f32) (ix3 e 0 j) :=
  congrArg (V m c main_v7) (stack_ix 1 1024 _ _ (transform_1_eq (tbl m) (grid0.coords t)) e he 0 j _ fun b => by fin_cases b <;> rfl)
theorem wd_block (k j : Fin 1024) :
    (iblk m hO c 5 t : FVec Ideal S1x1024x1024 .bf16) (ix3 0 k j) = (V m c main_v8 : FVec Ideal S32x1024x1024 .bf16) (ix3 e k j) :=
  congrArg (V m c main_v8) (stack_ix 1024 1024 _ _ (transform_1_eq (tbl m) (grid0.coords t)) e he k j _ fun b => by fin_cases b <;> rfl)
theorem bd_block (j : Fin 1024) :
    (iblk m hO c 6 t : FVec Ideal S1x1x1024 .f32) (ix3 0 0 j) = (V m c main_v9 : FVec Ideal S32x1x1024 .f32) (ix3 e 0 j) :=
  congrArg (V m c main_v9) (stack_ix 1 1024 _ _ (transform_1_eq (tbl m) (grid0.coords t)) e he 0 j _ fun b => by fin_cases b <;> rfl)

end

/-- The kernel's test says whether the block's number is below the number of used blocks. -/
theorem cond1_iff (i : grid0.Coords) (n : BitVec 32) :
    k0_cond1 i n = 1#1 ↔ IntOp.cmpi .slt (BitVec.ofNat 32 (i 0).val) n = 1#1 := by
  have h : ∀ b : BitVec 1, Scalar.cmpi .ne (Scalar.extui b : BitVec 32) (0#32) = 1#1 ↔ b = 1#1 := by decide
  exact h _

/-- The arguments' arrays. -/
abbrev bea : IVec S544 32 := m ((c.tc : Thread nD τ).loc main_arg0)
abbrev nua : IVec S1 32 := m ((c.tc : Thread nD τ).loc main_arg1)
abbrev xa : FVec Ideal S139264x1024 .bf16 := m ((c.tc : Thread nD τ).loc main_arg2)

theorem dev_zero : c = 0 := Subsingleton.elim _ _

/-- The number of used blocks is the second argument's word. -/
theorem used_eq : used m = nua m c (ix1 0) := by
  obtain rfl := dev_zero c
  have h : (tbl m 1 : TabBuf (F := Ideal) (0 : Dev nD) tabN) = nua m 0 := tbl_1 m
  unfold used
  rw [h]
  exact congrArg (nua m 0) (funext fun a => Fin.ext (by fin_cases a; rfl))

/-- The word of a point is the first argument's at its block. -/
theorem word_eq : word m hO t = bea m c (ix1 (blockNo m hO t)) := by
  obtain rfl := dev_zero c
  have h : wordsE (tbl m) = bea m 0 := tbl_0 m
  unfold word
  rw [h]
  exact congrArg (bea m 0) (funext fun a => Fin.ext (by fin_cases a; rfl))

/-- The result array. -/
def G (hb : ∀ n : Fin 544, (bea m c (ix1 n)).toNat < 32) : Vec Ideal S139264x1024 .bf16 :=
  fun y => spec (bea m c) hb (nua m c) (xa m c) (gu m c) (bgu m c) (wdn m c) (bdn m c) ⟨(y 0).val, (y 0).isLt⟩ ⟨(y 1).val, (y 1).isLt⟩

variable (hb : ∀ n : Fin 544, (bea m c (ix1 n)).toNat < 32)

/-- What a point stores is its block of the result. -/
theorem outAt_apply (a : Fin 256) (o : Fin 1024) :
    outAt m hO c t (ix2 a o) = G m c hb (ix2 ⟨(blockNo m hO t).val * 256 + a.val, by omega⟩ o) := by
  have he : (word m hO t).toNat = (expertOf (bea m c) hb (blockNo m hO t)).val := by
    rw [word_eq m c hO t]; rfl
  generalize hE : expertOf (bea m c) hb (blockNo m hO t) = e at he
  have hs := spec_block (bea m c) hb (nua m c) (xa m c) (gu m c) (bgu m c) (wdn m c) (bdn m c) (blockNo m hO t) a
    ⟨(blockNo m hO t).val * 256 + a.val, by omega⟩ rfl o e hE.symm
  refine Eq.trans ?_ hs.symm
  have hc : k0_cond1 (grid0.coords t) (used m) = 1#1 ↔ IntOp.cmpi .slt (BitVec.ofNat 32 (blockNo m hO t).val) (nua m c (ix1 0)) = 1#1 := by
    rw [← used_eq]; exact cond1_iff _ _
  have hp := pay_apply (iblk m hO c 0 t) (iblk m hO c 1 t) (iblk m hO c 2 t) (iblk m hO c 3 t) (iblk m hO c 4 t) (iblk m hO c 5 t) (iblk m hO c 6 t) a o
  have hf : expertOut (fun k => (iblk m hO c 0 t : FVec Ideal S256x1024 .bf16) (ix2 a k))
      (fun k j => (iblk m hO c 1 t : FVec Ideal S1x1024x1024 .bf16) (ix3 0 k j)) (fun k j => (iblk m hO c 2 t : FVec Ideal S1x1024x1024 .bf16) (ix3 0 k j))
      (fun j => (iblk m hO c 3 t : FVec Ideal S1x1x1024 .f32) (ix3 0 0 j)) (fun j => (iblk m hO c 4 t : FVec Ideal S1x1x1024 .f32) (ix3 0 0 j))
      (fun j => (iblk m hO c 5 t : FVec Ideal S1x1024x1024 .bf16) (ix3 0 j o)) ((iblk m hO c 6 t : FVec Ideal S1x1x1024 .f32) (ix3 0 0 o))
      = expertOut (fun k => xa m c (ix2 ⟨(blockNo m hO t).val * 256 + a.val, by omega⟩ k)) (fun k j => gu m c (ix3 e k ⟨2 * j.val, by omega⟩))
        (fun k j => gu m c (ix3 e k ⟨1 + 2 * j.val, by omega⟩)) (fun j => bgu m c (ix2 e ⟨2 * j.val, by omega⟩))
        (fun j => bgu m c (ix2 e ⟨1 + 2 * j.val, by omega⟩)) (fun j => wdn m c (ix3 e j o)) (bdn m c (ix2 e o)) := by
    congr 1
    · exact funext fun k => x_block m c hO t a k
    · exact funext fun k => funext fun j => (wg_block m c hO t e he k j).trans (wg_apply m c e k j)
    · exact funext fun k => funext fun j => (wl_block m c hO t e he k j).trans (wl_apply m c e k j)
    · exact funext fun j => (bg_block m c hO t e he j).trans (bg_apply m c e j)
    · exact funext fun j => (bl_block m c hO t e he j).trans (bl_apply m c e j)
    · exact funext fun j => (wd_block m c hO t e he j o).trans (wd_apply m c e j o)
    · exact (bd_block m c hO t e he o).trans (bd_apply m c e o)
  by_cases h : k0_cond1 (grid0.coords t) (used m) = 1#1
  · exact ((congrFun (if_pos h) (ix2 a o)).trans (hp.trans hf)).trans (if_pos (hc.mp h)).symm
  · exact ((congrFun (if_neg h) (ix2 a o)).trans (zero_apply a o)).trans (if_neg fun h' => h (hc.mpr h')).symm

/-- The point's number is its coordinate. -/
theorem coord_eq (t : Fin grid0.N) : (grid0.coords t 0).val = t.val := by
  have h : ∀ t : Fin grid0.N, (grid0.coords t 0).val = t.val := by decide +kernel
  exact h t

/-- Every point writes its block back. -/
theorem flush_7 (pf : pre0.Contents (Elt Ideal)) (t : Fin grid0.N) : Pipeline.Window.flushOf grid0 true cc0_transform_7 t = true :=
  (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _)

/-- An index is in point `t`'s block when its row is among the block's 256. -/
theorem mem_block (i : S139264x1024.Idx) :
    i ∈ (((cfgM m hO).win 7).blk t).view.set ↔ (blockNo m hO t).val * 256 ≤ (i 0).val ∧ (i 0).val < (blockNo m hO t).val * 256 + 256 := by
  have key : i ∈ (((cfgM m hO).win 7).blk t).view.set ↔ ∀ a : Fin 2, cc0_transform_7 (grid0.coords t) a * (![256, 1024] : Fin 2 → ℕ) a ≤ (i a).val
      ∧ (i a).val < cc0_transform_7 (grid0.coords t) a * (![256, 1024] : Fin 2 → ℕ) a + (![256, 1024] : Fin 2 → ℕ) a :=
    Pipeline.Window.emb_mem_blk_iff ((cfgM m hO).win 7) t i rfl
  refine key.trans ?_
  have h1 : (i 1).val < 1024 := (i 1).isLt
  have e0 : (BitVec.ofNat 32 (grid0.coords t 0).val).toNat * 256 = (blockNo m hO t).val * 256 := by
    have ht : (grid0.coords t 0).val < 544 := (grid0.coords t 0).isLt
    show _ = (grid0.coords t 0).val * 256
    rw [BitVec.toNat_ofNat]; omega
  rw [Fin.forall_fin_two]
  show ((BitVec.ofNat 32 (grid0.coords t 0).val).toNat * 256 ≤ (i 0).val ∧ (i 0).val < (BitVec.ofNat 32 (grid0.coords t 0).val).toNat * 256 + 256)
    ∧ (0 * 1024 ≤ (i 1).val ∧ (i 1).val < 0 * 1024 + 1024) ↔ _
  rw [e0]
  omega

/-- Every index is in some point's block. -/
theorem cover (i : S139264x1024.Idx) : ∃ t : Fin (cfgM m hO).N, ((cfgM m hO).win 7).flush t = true ∧ i ∈ (((cfgM m hO).win 7).blk t).view.set := by
  have hi : (i 0).val < 139264 := (i 0).isLt
  have hN : (i 0).val / 256 < grid0.N := by rw [N_0]; omega
  refine ⟨⟨(i 0).val / 256, hN⟩, flush_7 (tbl m) _, (mem_block m hO _ i).mpr ?_⟩
  have hco : (blockNo m hO ⟨(i 0).val / 256, hN⟩).val = (i 0).val / 256 := coord_eq _
  rw [hco]
  omega

/-- What a point stores is the result read through its block. -/
theorem outAt_read (y : S256x1024.Idx) : outAt m hO c t y = G m c hb ((((cfgM m hO).win 7).blk t).view.emb y) := by
  refine (congrArg (outAt m hO c t) (eq_ix2 y)).trans ?_
  refine (outAt_apply m c hO t hb _ _).trans (congrArg (G m c hb) (funext fun b => Fin.ext ?_))
  have ht : (grid0.coords t 0).val < 544 := (grid0.coords t 0).isLt
  match b with
  | ⟨0, _⟩ =>
    show (grid0.coords t 0).val * 256 + (y 0).val = (BitVec.ofNat 32 (grid0.coords t 0).val).toNat * 256 + 1 * (y 0).val
    rw [BitVec.toNat_ofNat]; omega
  | ⟨1, _⟩ =>
    show (y 1).val = 0 * 1024 + 1 * (y 1).val
    omega

/-- The result array holds the experts' result. -/
theorem result_eq : result m hO c = G m c hb := by
  unfold result
  refine (dats m hO 0 c).arrAt_eq_of_cover 7 (G m c hb) (fun t _ => ?_) (fun i => cover m hO i)
  show ((cfgM m hO).win 7).cut (grid0.coords t) ((dats m hO 0 c).after 7 t) = _
  rw [after_7]
  exact funext fun y => outAt_read m c hO t hb y

end Cert.KernelIdeal.Experts

end
-- ==== Proof.Experts.Gather.lean ====
/-
  Gathers of whole matrices and of whole rows by a list of numbers, read at an index.
-/
module

public import Idealize.ShloMosaic.Lib.Pointwise.IndexBridge
public import Idealize.ShloMosaic.Lib.Routing.Ops
public import Idealize.ShloMosaic.Lib.StableHlo.Predicate

@[expose] public section

noncomputable section

namespace Cert.Experts

open Idealize.ShloMosaic

/-- The dimension numbers of `table[idx]` for a stack of `N` matrices `[A, B]` and `n` numbers. -/
abbrev slabDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where the `i`-th number is `e < N`, the `i`-th matrix of the result is the `e`-th of the stack. -/
theorem gather_slab {α : Type} {N A B n : Nat} (hN : N < 2 ^ 31)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (i : Fin n) (a : Fin A) (b : Fin B) (e : Fin N)
    (he : idx (ix2 i (0 : Fin 1)) = BitVec.ofNat 32 e.val) :
    Host.gather (slabDims N A B n wf) x idx (ix3 i a b) = x (ix3 e a b) := by
  unfold Host.gather
  refine congrArg x (funext fun k => Fin.ext ?_)
  show (slabDims N A B n wf).start (ix3 i a b) idx k + (slabDims N A B n wf).batchCoord (ix3 i a b) k
      + (slabDims N A B n wf).offCoord (ix3 i a b) k = _
  rw [GatherDims.batchCoord_eq_zero _ _ _ List.not_mem_nil, Nat.add_zero]
  match k with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 3) ∈ (slabDims N A B n wf).startIndexMap from List.mem_singleton.mpr rfl)]
    have hsi : (slabDims N A B n wf).siIdx (ix3 i a b) ⟨List.idxOf (0 : Fin 3) (slabDims N A B n wf).startIndexMap,
        List.idxOf_lt_length_iff.2 (List.mem_singleton.mpr rfl)⟩ = ix2 i (0 : Fin 1) := by
      funext k'; refine Fin.ext ?_
      match k' with
      | ⟨0, _⟩ => rfl
      | ⟨1, _⟩ => rfl
    have h1 := e.isLt
    refine Eq.trans (congrArg (fun w : BitVec 32 => min w.toInt.toNat (N - 1)) (hsi ▸ he)) ?_
    show min (BitVec.ofNat 32 e.val).toInt.toNat (N - 1) = e.val
    rw [StableHlo.Predicate.toInt_ofNat_small _ (by omega)]
    show min ((e.val : Int)).toNat (N - 1) = e.val
    omega
  | ⟨1, _⟩ =>
    unfold GatherDims.start
    rw [dif_neg (show (⟨1, _⟩ : Fin 3) ∉ (slabDims N A B n wf).startIndexMap from fun h => by simp at h), Nat.zero_add]
    rfl
  | ⟨2, _⟩ =>
    unfold GatherDims.start
    rw [dif_neg (show (⟨2, _⟩ : Fin 3) ∉ (slabDims N A B n wf).startIndexMap from fun h => by simp at h), Nat.zero_add]
    rfl

/-- Where the `i`-th number is `e < N`, the `i`-th row gathered from `N` rows is the `e`-th. -/
theorem gather_line {α : Type} {N B n : Nat} (d : GatherDims ⟨2, ![N, B]⟩ ⟨2, ![n, 1]⟩ ⟨2, ![n, B]⟩) (h1 : d.offsetDims = [1])
    (h2 : d.collapsedSliceDims = [0]) (h3 : d.operandBatchingDims = []) (h4 : d.startIndexMap = [0]) (h5 : d.indexVectorDim = 1)
    (hN : N < 2 ^ 31) (x : (⟨2, ![N, B]⟩ : Shape).Idx → α) (idx : IVec ⟨2, ![n, 1]⟩ 32) (i : Fin n) (b : Fin B) (e : Fin N)
    (he : idx (ix2 i (0 : Fin 1)) = BitVec.ofNat 32 e.val) : Host.gather d x idx (ix2 i b) = x (ix2 e b) := by
  rw [ix2_eq_valueIdx] at he ⊢
  rw [ix2_eq_valueIdx]
  exact Routing.gather_row d h1 h2 h3 h4 h5 x idx i b e he hN

end Cert.Experts

end
-- ==== Proof.Experts.Reference.lean ====
/-
  The reference's result, read at one row and one column: the expert feed-forward of the row's block where the block is used,
  zero elsewhere.
-/
module

public import proofs.«01_k».proof.Proof.Gen.ReferenceIdeal.Run
public import proofs.«01_k».proof.Proof.Experts.Payload
public import proofs.«01_k».proof.Proof.Experts.Gather
public import Idealize.ShloMosaic.Lib.Routing.Ops
public import Idealize.ShloMosaic.Lib.Pointwise

@[expose] public section

set_option maxRecDepth 16384

noncomputable section

namespace Cert.ReferenceIdeal.Experts

open Idealize.ShloMosaic Idealize.ShloMosaic.TcCoe Idealize.ShloMosaic.Tactic
open Idealize.ShloMosaic.Pointwise
open Cert.ReferenceIdeal Cert.ReferenceIdeal.Gen
open Cert.KernelIdeal.Experts (act expertOut expertOf spec)

/-- The numbers the reference gathers by: a negative one wraps by 32. -/
def gatherIx (be : IVec S544 32) : IVec S544x1 32 :=
  broadcastInDim S544x1 ![0] bcast_S544_S544x1_0 (select (cmpi .slt be (broadcastInDim S544 ![] bcast_S_S544 (constantI S_ 32 0#32)))
    (addi be (broadcastInDim S544 ![] bcast_S_S544 (constantI S_ 32 32#32))) be)

/-- A number in range is gathered as it is. -/
theorem gatherIx_apply (be : IVec S544 32) (n : Fin 544) (h : (be (ix1 n)).toNat < 32) : gatherIx be (ix2 n 0) = be (ix1 n) := by
  have h0 : IntOp.cmpi .slt (be (ix1 n)) 0#32 ≠ 1#1 := fun hc => by
    have := (StableHlo.Predicate.slt_iff_toNat (by omega) (by decide)).mp hc
    exact absurd this (by simp)
  pointwise [gatherIx]
  exact if_neg h0

/-- The hidden units before the activation, gate and linear columns interleaved. -/
def hidden (x : FVec Ideal S139264x1024 .bf16) (w : FVec Ideal S544x1024x2048 .f32) (b : FVec Ideal S544x2048 .f32) : FVec Ideal S544x256x2048 .f32 :=
  addf (Host.dotGeneral dot_S544x256x1024_S544x1024x2048_S544x256x2048_2_1_1_2_0_0 none
      (shapeCast _ (extf .f32 x bitsLt_bf16_f32) shapeCasts_S139264x1024_S544x256x1024) w)
    (broadcastInDim S544x256x2048 ![0, 1, 2] bcast_S544x1x2048_S544x256x2048_0_1_2
      (broadcastInDim S544x1x2048 ![0, 2] bcast_S544x2048_S544x1x2048_0_2 b))

/-- The reference's result from gathered weights. -/
def out (nu : IVec S1 32) (h : FVec Ideal S544x256x2048 .f32) (w : FVec Ideal S544x1024x1024 .f32) (b : FVec Ideal S544x1024 .f32) :
    FVec Ideal S139264x1024 .bf16 :=
  truncf .bf16 (shapeCast _ (select (broadcastInDim S544x256x1024 ![0, 1, 2] bcast_S544x1x1_S544x256x1024_0_1_2 (cmpi .slt (broadcastInDim S544x1x1 ![0] bcast_S544_S544x1x1_0 (iotaInDim S544 32 0)) (broadcastInDim S544x1x1 ![] bcast_S_S544x1x1 (shapeCast _ nu shapeCasts_S1_S_)))) (addf (Host.dotGeneral dot_S544x256x1024_S544x1024x1024_S544x256x1024_2_1_1_2_0_0 none (mulf (mulf (minimumf (Host.slice S544x256x1024 ![0, 0, 0] ![1, 1, 2] h slicesBy_S544x256x2048_S544x256x1024_0s1_0s1_0s2) (broadcastInDim S544x256x1024 ![] bcast_S_S544x256x1024 (constant S_ .f32 0x40E00000#32))) (Host.divf (broadcastInDim S544x256x1024 ![] bcast_S_S544x256x1024 (constant S_ .f32 0x3F800000#32)) (addf (broadcastInDim S544x256x1024 ![] bcast_S_S544x256x1024 (constant S_ .f32 0x3F800000#32)) (Host.exp (Host.negf (mulf (broadcastInDim S544x256x1024 ![] bcast_S_S544x256x1024 (constant S_ .f32 0x3FD9DB23#32)) (minimumf (Host.slice S544x256x1024 ![0, 0, 0] ![1, 1, 2] h slicesBy_S544x256x2048_S544x256x1024_0s1_0s1_0s2) (broadcastInDim S544x256x1024 ![] bcast_S_S544x256x1024 (constant S_ .f32 0x40E00000#32)))))))))
    (addf (minimumf (broadcastInDim S544x256x1024 ![] bcast_S_S544x256x1024 (id (constant S_ .f32 0x40E00000#32))) (maximumf (broadcastInDim S544x256x1024 ![] bcast_S_S544x256x1024 (id (constant S_ .f32 0xC0E00000#32))) (Host.slice S544x256x1024 ![0, 0, 1] ![1, 1, 2] h slicesBy_S544x256x2048_S544x256x1024_0s1_0s1_1s2))) (broadcastInDim S544x256x1024 ![] bcast_S_S544x256x1024 (constant S_ .f32 0x3F800000#32)))) w) (broadcastInDim S544x256x1024 ![0, 1, 2] bcast_S544x1x1024_S544x256x1024_0_1_2 (broadcastInDim S544x1x1024 ![0, 2] bcast_S544x1024_S544x1x1024_0_2 b))) (broadcastInDim S544x256x1024 ![] bcast_S_S544x256x1024 (id (constant S_ .f32 0x00000000#32)))) shapeCasts_S544x256x1024_S139264x1024) bitsLt_bf16_f32

/-- One hidden unit of one row: the row times one column, plus the bias. -/
theorem hidden_apply (x : FVec Ideal S139264x1024 .bf16) (w : FVec Ideal S544x1024x2048 .f32) (b : FVec Ideal S544x2048 .f32)
    (n : Fin 544) (t : Fin 256) (j : Fin 2048) :
    hidden x w b (ix3 n t j) = (∑ k : Fin 1024, x (ix2 ⟨n.val * 256 + t.val, by omega⟩ k) * w (ix3 n k j)) + b (ix2 n j) := by
  pointwise [hidden]

/-- The result at row `r`, column `o`, from the hidden units and the gathered down weights. -/
theorem out_apply (nu : IVec S1 32) (h : FVec Ideal S544x256x2048 .f32) (w : FVec Ideal S544x1024x1024 .f32) (b : FVec Ideal S544x1024 .f32)
    (r : Fin 139264) (o : Fin 1024) :
    out nu h w b (ix2 r o)
      = Scalar.select (IntOp.cmpi .slt (BitVec.ofNat 32 (r.val / 256)) (nu (ix1 0)))
          ((∑ j : Fin 1024, act (h (ix3 ⟨r.val / 256, by omega⟩ ⟨r.val % 256, by omega⟩ ⟨2 * j.val, by omega⟩))
              (h (ix3 ⟨r.val / 256, by omega⟩ ⟨r.val % 256, by omega⟩ ⟨1 + 2 * j.val, by omega⟩)) * w (ix3 ⟨r.val / 256, by omega⟩ j o))
            + b (ix2 ⟨r.val / 256, by omega⟩ o)) 0 := by
  pointwise [out, act, Ideal.logistic, id]

/-- The reference's result in these words. -/
theorem res_eq (m : (ℓ : Loc nD τ sig) → Buf (Elt Ideal) ℓ) (c : Dev nD) :
    Value.res_out0 m c = out (m ((c.tc : Thread nD τ).loc main_arg1))
      (hidden (m ((c.tc : Thread nD τ).loc main_arg2))
        (Host.gather gather_S32x1024x2048_S544x1_S544x1024x2048_12_0_n_n_0_1_110242048 (m ((c.tc : Thread nD τ).loc main_arg3)) (gatherIx (m ((c.tc : Thread nD τ).loc main_arg0))))
        (Host.gather gather_S32x2048_S544x1_S544x2048_1_0_n_n_0_1_12048 (m ((c.tc : Thread nD τ).loc main_arg4)) (gatherIx (m ((c.tc : Thread nD τ).loc main_arg0)))))
      (Host.gather gather_S32x1024x1024_S544x1_S544x1024x1024_12_0_n_n_0_1_110241024 (m ((c.tc : Thread nD τ).loc main_arg5)) (gatherIx (m ((c.tc : Thread nD τ).loc main_arg0))))
      (Host.gather gather_S32x1024_S544x1_S544x1024_1_0_n_n_0_1_11024 (m ((c.tc : Thread nD τ).loc main_arg6)) (gatherIx (m ((c.tc : Thread nD τ).loc main_arg0)))) := by
  unfold Value.res_out0 Value.res_main_v62 out hidden gatherIx
  rfl

/-- The reference's result is the experts' result, element by element. -/
theorem res_apply (m : (ℓ : Loc nD τ sig) → Buf (Elt Ideal) ℓ) (c : Dev nD)
    (h : ∀ n : Fin 544, ((m ((c.tc : Thread nD τ).loc main_arg0) : IVec S544 32) (ix1 n)).toNat < 32) (r : Fin 139264) (o : Fin 1024) :
    (Value.res_out0 m c : FVec Ideal S139264x1024 .bf16) (ix2 r o)
      = spec (m ((c.tc : Thread nD τ).loc main_arg0)) h (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) r o := by
  rw [res_eq, out_apply]
  generalize m ((c.tc : Thread nD τ).loc main_arg0) = be at h ⊢
  generalize m ((c.tc : Thread nD τ).loc main_arg1) = nu
  generalize m ((c.tc : Thread nD τ).loc main_arg2) = x
  generalize m ((c.tc : Thread nD τ).loc main_arg3) = gu
  generalize m ((c.tc : Thread nD τ).loc main_arg4) = bgu
  generalize m ((c.tc : Thread nD τ).loc main_arg5) = wd
  generalize m ((c.tc : Thread nD τ).loc main_arg6) = bd
  have hix : ∀ n : Fin 544, gatherIx be (ix2 n 0) = BitVec.ofNat 32 (expertOf be h n).val := fun n =>
    (gatherIx_apply be n (h n)).trans (BitVec.eq_of_toNat_eq (by rw [BitVec.toNat_ofNat]; exact (Nat.mod_eq_of_lt (be (ix1 n)).isLt).symm))
  have g3 : ∀ n k j, Host.gather gather_S32x1024x2048_S544x1_S544x1024x2048_12_0_n_n_0_1_110242048 gu (gatherIx be) (ix3 n k j) = gu (ix3 (expertOf be h n) k j) :=
    fun n k j => Cert.Experts.gather_slab (by decide) gather_S32x1024x2048_S544x1_S544x1024x2048_12_0_n_n_0_1_110242048_wf gu (gatherIx be) n k j _ (hix n)
  have g5 : ∀ n k j, Host.gather gather_S32x1024x1024_S544x1_S544x1024x1024_12_0_n_n_0_1_110241024 wd (gatherIx be) (ix3 n k j) = wd (ix3 (expertOf be h n) k j) :=
    fun n k j => Cert.Experts.gather_slab (by decide) gather_S32x1024x1024_S544x1_S544x1024x1024_12_0_n_n_0_1_110241024_wf wd (gatherIx be) n k j _ (hix n)
  have g4 : ∀ n j, Host.gather gather_S32x2048_S544x1_S544x2048_1_0_n_n_0_1_12048 bgu (gatherIx be) (ix2 n j) = bgu (ix2 (expertOf be h n) j) :=
    fun n j => Cert.Experts.gather_line gather_S32x2048_S544x1_S544x2048_1_0_n_n_0_1_12048 rfl rfl rfl rfl rfl (by decide) bgu (gatherIx be) n j _ (hix n)
  have g6 : ∀ n j, Host.gather gather_S32x1024_S544x1_S544x1024_1_0_n_n_0_1_11024 bd (gatherIx be) (ix2 n j) = bd (ix2 (expertOf be h n) j) :=
    fun n j => Cert.Experts.gather_line gather_S32x1024_S544x1_S544x1024_1_0_n_n_0_1_11024 rfl rfl rfl rfl rfl (by decide) bd (gatherIx be) n j _ (hix n)
  have hr : ∀ hb, (⟨r.val / 256 * 256 + r.val % 256, hb⟩ : Fin 139264) = r := fun hb => Fin.ext (Nat.div_add_mod' _ _)
  simp only [hidden_apply, hr, g3, g4, g5, g6]
  rfl

end Cert.ReferenceIdeal.Experts

end
-- ==== Proof.Experts.Algebraic.lean ====
/-
  The kernel and the reference end with one result, and the reference leaves its arguments unchanged.
-/
module

public import proofs.«01_k».proof.Proof.Experts.Array
public import proofs.«01_k».proof.Proof.Experts.Reference
public import proofs.«01_k».proof.Proof.Experts.Frame
public import Idealize.ShloMosaic.Adequacy

@[expose] public section

set_option maxRecDepth 16384

noncomputable section

namespace Cert.KernelIdeal.Experts

open Idealize.ShloMosaic Idealize.ShloMosaic.TcCoe Idealize.SL.Sem
open Cert.KernelIdeal.Gen

/-- The reference's frame: it writes no argument and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Equal arguments have equal results. -/
theorem spec_congr {be be' : Vec Ideal S544 .i32} {nu nu' : Vec Ideal S1 .i32} {x x' : Vec Ideal S139264x1024 .bf16}
    {w w' : Vec Ideal S32x1024x2048 .f32} {b b' : Vec Ideal S32x2048 .f32} {wd wd' : Vec Ideal S32x1024x1024 .f32} {bd bd' : Vec Ideal S32x1024 .f32}
    (h0 : be' = be) (h1 : nu' = nu) (h2 : x' = x) (h3 : w' = w) (h4 : b' = b) (h5 : wd' = wd) (h6 : bd' = bd)
    (hb' : ∀ n : Fin 544, (be' (ix1 n)).toNat < 32) (hb : ∀ n : Fin 544, (be (ix1 n)).toNat < 32) (r : Fin 139264) (o : Fin 1024) :
    spec be' hb' nu' x' w' b' wd' bd' r o = spec be hb nu x w b wd bd r o := by
  subst h0 h1 h2 h3 h4 h5 h6
  rfl

/-- Where every block's expert is one of the 32, the kernel's result is the reference's, element by element. -/
theorem algebraic : Cert.algebraic_KernelIdeal_ReferenceIdeal := by
  intro m g m' g' hpre hargs
  have hb : ∀ (c : Dev nD) (n : Fin 544), (bea m c (ix1 n)).toNat < 32 := fun c n => lt_of_pre _ _ _ _ _ _ _ (hpre c) _
  have hO : Ok m := ok_of_pre m hpre
  refine ⟨fun c => result m hO c, ?_, ?_⟩
  · refine (θ_run defs _ _).mono (fun r h c => ⟨(h.1 c).2, (h.1 c).1 _ (.inl rfl), (h.1 c).1 _ (.inr (.inl rfl)), (h.1 c).1 _ (.inr (.inr (.inl rfl))),
      (h.1 c).1 _ (.inr (.inr (.inr (.inl rfl)))), (h.1 c).1 _ (.inr (.inr (.inr (.inr (.inl rfl))))),
      (h.1 c).1 _ (.inr (.inr (.inr (.inr (.inr (.inl rfl)))))), (h.1 c).1 _ (.inr (.inr (.inr (.inr (.inr (.inr rfl))))))⟩) (run m g hO)
  · refine (θ_run Cert.ReferenceIdeal.defs _ _).mono (fun r h c => ⟨(h c).1.trans ?_, (h c).2⟩) (Cert.ReferenceIdeal.Value.run m' g')
    obtain ⟨h0, h1, h2, h3, h4, h5, h6⟩ := hargs c
    have hb' : ∀ n : Fin 544, ((m' ((c.tc : Thread nD τ).loc Cert.ReferenceIdeal.main_arg0) : IVec S544 32) (ix1 n)).toNat < 32 := fun n => by
      have e := congrArg BitVec.toNat (congrFun h0 (ix1 n))
      exact lt_of_eq_of_lt e (hb c n)
    refine Eq.trans ?_ (result_eq m c hO (hb c)).symm
    funext y
    have hr := Cert.ReferenceIdeal.Experts.res_apply m' c hb' ⟨((y : S139264x1024.Idx) 0).val, ((y : S139264x1024.Idx) 0).isLt⟩
      ⟨((y : S139264x1024.Idx) 1).val, ((y : S139264x1024.Idx) 1).isLt⟩
    refine (congrArg (Cert.ReferenceIdeal.Value.res_out0 m' c) (eq_ix2 (y : S139264x1024.Idx))).trans (hr.trans ?_)
    exact spec_congr h0 h1 h2 h3 h4 h5 h6 hb' (hb c) _ _

end Cert.KernelIdeal.Experts

end
-- ==== Proof.Rows.Block.lean ====
/-
  Rows of an array of 32768 rows, cut into 64 blocks of 512 rows each.
-/
module

public import Idealize.ShloMosaic.Lib.Pointwise

@[expose] public section

noncomputable section

namespace Cert.Rows

open Idealize.ShloMosaic

/-- Two matrices are equal when they are at every row and column. -/
theorem ext2 {n k : ℕ} {β : Type} {f g : (⟨2, ![n, k]⟩ : Shape).Idx → β} (h : ∀ (r : Fin n) (j : Fin k), f (ix2 r j) = g (ix2 r j)) : f = g :=
  funext fun y => by rw [eq_ix2 y]; exact h _ _

/-- The row of the array at place `a` of block `n`. -/
def row (n : Fin 64) (a : Fin 512) : Fin 32768 := ⟨n.val * 512 + a.val, by omega⟩

/-- The block a row lies in. -/
def blockOf (r : Fin 32768) : Fin 64 := ⟨r.val / 512, by omega⟩

/-- The row's place in its block. -/
def placeOf (r : Fin 32768) : Fin 512 := ⟨r.val % 512, by omega⟩

/-- A row is the one at its place of its block. -/
theorem row_blockOf (r : Fin 32768) : row (blockOf r) (placeOf r) = r := by
  refine Fin.ext ?_
  show r.val / 512 * 512 + r.val % 512 = r.val
  omega

/-- An index whose coordinates are block `n`'s offset plus a place in the block, the block being as wide as the array. -/
theorem ix_of_block {W : ℕ} (n : Fin 64) (y : (⟨2, ![512, W]⟩ : Shape).Idx) (i : (⟨2, ![32768, W]⟩ : Shape).Idx)
    (h0 : (i 0).val = (BitVec.ofNat 32 n.val).toNat * 512 + 1 * (y 0).val) (h1 : (i 1).val = 0 * W + 1 * (y 1).val) :
    i = ix2 (row n (y 0)) (y 1) := by
  have hn : n.val < 64 := n.isLt
  rw [BitVec.toNat_ofNat] at h0
  refine funext fun b => Fin.ext ?_
  match b with
  | ⟨0, _⟩ =>
    show (i 0).val = n.val * 512 + (y 0).val
    omega
  | ⟨1, _⟩ =>
    show (i 1).val = (y 1).val
    omega

/-- An index that the view places something at is in the view's set. -/
theorem mem_of_emb {sig : RefSig} {κ : Kind} {sp : Space} {S : Shape} {e : EltTy} (v : View sig κ sp S e) (x : S.Idx) {i : v.ty.Idx} (h : v.emb x = i) :
    i ∈ v.set := h ▸ v.emb_mem_set x

/-- An index is the one at its row's place of its row's block. -/
theorem ix_place {W : ℕ} (i : (⟨2, ![32768, W]⟩ : Shape).Idx) (n : Fin 64) (hn : n = blockOf (i 0)) : ix2 (row n (placeOf (i 0))) (i 1) = i := by
  subst hn
  exact (congrArg (fun r : Fin 32768 => (ix2 r (i 1) : (⟨2, ![32768, W]⟩ : Shape).Idx)) (row_blockOf (i 0))).trans (eq_ix2 i).symm

end Cert.Rows

end
-- ==== Proof.Proj.Columns.lean ====
/-
  The projection's six results in plain formulas: the kernel's stores and the reference's results, read at one row and one column.
-/
module

public import proofs.«01_k».proof.Proof.Gen.ProjIdeal.Skeleton
public import proofs.«01_k».proof.Proof.Gen.ProjReferenceIdeal.Run
public import proofs.«01_k».proof.Proof.Rows.Block
public import Idealize.ShloMosaic.Lib.Pointwise

@[expose] public section

set_option maxRecDepth 16384

noncomputable section

namespace Cert.ProjIdeal.Proj

open Idealize.ShloMosaic Idealize.ShloMosaic.TcCoe Idealize.ShloMosaic.Tactic
open Idealize.ShloMosaic.Pointwise
open Cert.ProjIdeal.Gen

/-- The columns `off`, `off + 1`, … of the product of the rows with the weights. -/
def part (W off : ℕ) (h : off + W ≤ 2304) (x : FVec Ideal S32768x1024 .f32) (w : FVec Ideal S1024x2304 .f32) :
    Vec Ideal (⟨2, ![32768, W]⟩ : Shape) .bf16 :=
  fun y => ∑ k : Fin 1024, x (ix2 (y 0) k) * w (ix2 k ⟨off + (y 1).val, by have : (y 1).val < W := (y 1).isLt; omega⟩)

/-- The same columns over the square root of a head's width, 8. -/
def scaled (W off : ℕ) (h : off + W ≤ 2304) (x : FVec Ideal S32768x1024 .f32) (w : FVec Ideal S1024x2304 .f32) :
    Vec Ideal (⟨2, ![32768, W]⟩ : Shape) .bf16 :=
  fun y => part W off h x w y * Ideal.ofBits .f32 0x3E000000#32

/-- What the kernel stores from its rows' block, column by column: queries, keys and values of the dilated attention, -/
theorem qc_apply (x : Vec Ideal S512x1024 .f32) (w : Vec Ideal S1024x2304 .bf16) (a : Fin 512) (j : Fin 512) :
    k0_pay3 x w (ix2 a j) = (∑ k : Fin 1024, x (ix2 a k) * w (ix2 k ⟨0 + j.val, by omega⟩)) * Ideal.ofBits .f32 0x3E000000#32 := by
  pointwise [k0_pay3, k0_pay2]
theorem kc_apply (x : Vec Ideal S512x1024 .f32) (w : Vec Ideal S1024x2304 .bf16) (a : Fin 512) (j : Fin 512) :
    k0_pay4 x w (ix2 a j) = ∑ k : Fin 1024, x (ix2 a k) * w (ix2 k ⟨512 + j.val, by omega⟩) := by
  pointwise [k0_pay4, k0_pay2]
theorem vc_apply (x : Vec Ideal S512x1024 .f32) (w : Vec Ideal S1024x2304 .bf16) (a : Fin 512) (j : Fin 512) :
    k0_pay5 x w (ix2 a j) = ∑ k : Fin 1024, x (ix2 a k) * w (ix2 k ⟨1024 + j.val, by omega⟩) := by
  pointwise [k0_pay5, k0_pay2]
/-- and of the windowed attention. -/
theorem qd_apply (x : Vec Ideal S512x1024 .f32) (w : Vec Ideal S1024x2304 .bf16) (a : Fin 512) (j : Fin 512) :
    k0_pay6 x w (ix2 a j) = (∑ k : Fin 1024, x (ix2 a k) * w (ix2 k ⟨1536 + j.val, by omega⟩)) * Ideal.ofBits .f32 0x3E000000#32 := by
  pointwise [k0_pay6, k0_pay2]
theorem kd_apply (x : Vec Ideal S512x1024 .f32) (w : Vec Ideal S1024x2304 .bf16) (a : Fin 512) (j : Fin 128) :
    k0_pay7 x w (ix2 a j) = ∑ k : Fin 1024, x (ix2 a k) * w (ix2 k ⟨2048 + j.val, by omega⟩) := by
  pointwise [k0_pay7, k0_pay2]
theorem vd_apply (x : Vec Ideal S512x1024 .f32) (w : Vec Ideal S1024x2304 .bf16) (a : Fin 512) (j : Fin 128) :
    k0_pay1 (k0_pay8 x w) (ix2 a j) = ∑ k : Fin 1024, x (ix2 a k) * w (ix2 k ⟨2176 + j.val, by omega⟩) := by
  pointwise [k0_pay1, k0_pay8, k0_pay2]

end Cert.ProjIdeal.Proj

namespace Cert.ProjReferenceIdeal.Proj

open Idealize.ShloMosaic Idealize.ShloMosaic.TcCoe Idealize.ShloMosaic.Tactic
open Idealize.ShloMosaic.Pointwise
open Cert.ProjReferenceIdeal Cert.ProjReferenceIdeal.Gen
open Cert.ProjIdeal.Proj (part scaled)

variable (x : FVec Ideal S32768x1024 .f32) (w : FVec Ideal S1024x2304 .f32)

/-- The reference's product of all rows with all weights. -/
abbrev product : FVec Ideal S32768x2304 .f32 := Host.dotGeneral dot_S32768x1024_S1024x2304_S32768x2304_1_0_0_1_n_n none x w

/-- The reference's six results. -/
theorem qc_eq : (truncf .bf16 (mulf (extractStridedSlice S32768x512 ![0, 0] (product x w) slices_S32768x2304_S32768x512_0_0)
    (broadcastInDim S32768x512 ![] bcast_S_S32768x512 (constant S_ .f32 0x3E000000#32))) bitsLt_bf16_f32 : FVec Ideal S32768x512 .bf16)
    = scaled 512 0 (by omega) x w := by
  refine Cert.Rows.ext2 fun r j => ?_
  pointwise [scaled, part, product]
theorem kc_eq : (truncf .bf16 (extractStridedSlice S32768x512 ![0, 512] (product x w) slices_S32768x2304_S32768x512_0_512) bitsLt_bf16_f32
    : FVec Ideal S32768x512 .bf16) = part 512 512 (by omega) x w := by
  refine Cert.Rows.ext2 fun r j => ?_
  pointwise [part, product]
theorem vc_eq : (truncf .bf16 (extractStridedSlice S32768x512 ![0, 1024] (product x w) slices_S32768x2304_S32768x512_0_1024) bitsLt_bf16_f32
    : FVec Ideal S32768x512 .bf16) = part 512 1024 (by omega) x w := by
  refine Cert.Rows.ext2 fun r j => ?_
  pointwise [part, product]
theorem qd_eq : (truncf .bf16 (mulf (extractStridedSlice S32768x512 ![0, 1536] (product x w) slices_S32768x2304_S32768x512_0_1536)
    (broadcastInDim S32768x512 ![] bcast_S_S32768x512 (constant S_ .f32 0x3E000000#32))) bitsLt_bf16_f32 : FVec Ideal S32768x512 .bf16)
    = scaled 512 1536 (by omega) x w := by
  refine Cert.Rows.ext2 fun r j => ?_
  pointwise [scaled, part, product]
theorem kd_eq : (truncf .bf16 (extractStridedSlice S32768x128 ![0, 2048] (product x w) slices_S32768x2304_S32768x128_0_2048) bitsLt_bf16_f32
    : FVec Ideal S32768x128 .bf16) = part 128 2048 (by omega) x w := by
  refine Cert.Rows.ext2 fun r j => ?_
  pointwise [part, product]
theorem vd_eq : (truncf .bf16 (extractStridedSlice S32768x128 ![0, 2176] (product x w) slices_S32768x2304_S32768x128_0_2176) bitsLt_bf16_f32
    : FVec Ideal S32768x128 .bf16) = part 128 2176 (by omega) x w := by
  refine Cert.Rows.ext2 fun r j => ?_
  pointwise [part, product]

end Cert.ProjReferenceIdeal.Proj

end
-- ==== Proof.Proj.Array.lean ====
/-
  The projection's six arrays after the run: each block of 512 rows is a block of the product, and the blocks tile the arrays.
-/
module

public import proofs.«01_k».proof.Proof.Gen.ProjIdeal.Value
public import proofs.«01_k».proof.Proof.Proj.Columns

@[expose] public section

set_option maxRecDepth 16384

noncomputable section

namespace Cert.ProjIdeal.Proj

open Idealize.ShloMosaic Idealize.ShloMosaic.TcCoe Idealize.ShloMosaic.Tactic Idealize.ShloMosaic.StableHlo
open Idealize.ShloMosaic.Pointwise
open Cert.ProjIdeal.Gen Cert.Rows

variable (m : (ℓ : Loc nD τ sig) → Buf (Elt Ideal) ℓ) (c : Dev nD) (t : Fin cfg0.N)

/-- The arguments: the rows and the weights. -/
abbrev xa : FVec Ideal S32768x1024 .f32 := m ((c.tc : Thread nD τ).loc main_arg0)
abbrev wa : FVec Ideal S1024x2304 .f32 := m ((c.tc : Thread nD τ).loc main_arg1)

/-- The point's number along the one grid axis. -/
def blockNo : Fin 64 := grid0.coords t 0

/-- It is the point's own number. -/
theorem blockNo_val (t : Fin grid0.N) : (blockNo t).val = t.val := by
  have h : ∀ t : Fin grid0.N, (grid0.coords t 0).val = t.val := by decide +kernel
  exact h t

/-- The point of a block. -/
def pointOf (n : Fin 64) : Fin cfg0.N := ⟨n.val, n.isLt.trans_eq N_0.symm⟩
theorem blockNo_pointOf (n : Fin 64) : blockNo (pointOf n) = n := Fin.ext (blockNo_val _)

/-- A point's blocks of both arguments. -/
abbrev xBlock : FVec Ideal S512x1024 .f32 := iblk m c 0 t
abbrev wBlock : FVec Ideal S1024x2304 .bf16 := iblk m c 1 t

/-- The rows' block. -/
theorem x_block (a : Fin 512) (k : Fin 1024) :
    xBlock m c t (ix2 a k) = xa m c (ix2 (row (blockNo t) a) k) := by
  have hV : V m c main_arg0 = m ((c.tc : Thread nD τ).loc main_arg0) := V_main_arg0 m c
  unfold xa
  rw [← hV]
  exact congrArg (V m c main_arg0) (ix_of_block (blockNo t) (ix2 a k) _ rfl rfl)

/-- The weights as the host prepares them: in bf16, which over the reals are the weights. -/
theorem V_weights : V m c main_v0 = truncf (s := S1024x2304) .bf16 (wa m c) bitsLt_bf16_f32 := by
  unfold V; simp only [hostOps0]; after_results_simp <;> rfl

/-- Each point has them whole. -/
theorem w_block (k : Fin 1024) (j : Fin 2304) : wBlock m c t (ix2 k j) = wa m c (ix2 k j) := by
  refine Eq.trans (b := (V m c main_v0 : FVec Ideal S1024x2304 .bf16) (ix2 k j)) (congrArg (V m c main_v0) (funext fun b => Fin.ext ?_)) ?_
  · match b with
    | ⟨0, _⟩ => show 0 * 1024 + 1 * k.val = k.val; omega
    | ⟨1, _⟩ => show 0 * 2304 + 1 * j.val = j.val; omega
  · rw [V_weights]; rfl

/-- A row of the block times a column of the weights. -/
theorem column_block (a : Fin 512) (j : Fin 2304) :
    (∑ k : Fin 1024, xBlock m c t (ix2 a k) * wBlock m c t (ix2 k j))
      = ∑ k : Fin 1024, xa m c (ix2 (row (blockNo t) a) k) * wa m c (ix2 k j) :=
  Finset.sum_congr rfl fun k _ => by rw [x_block, w_block]

/-- The two offsets of a whole block. -/
theorem offsets_zero : (![0, 0] : Fin 2 → ℕ) = fun _ => 0 := by decide

/-- Window 2, the queries of the dilated attention: what a point stores, where its block lies, and the array. -/
theorem qc_block : out0_2 (iblk m c 0 t) (iblk m c 1 t) = fun y : S512x512.Idx => scaled 512 0 (by omega) (xa m c) (wa m c) (ix2 (row (blockNo t) (y 0)) (y 1)) := by
  unfold out0_2
  rw [View.canon_unit_zero offsets_zero, View.ld_unit_zero offsets_zero, View.ld_unit_zero offsets_zero]
  exact ext2 fun a j => (qc_apply _ _ a j).trans (congrArg (· * _) (column_block m c t a _))
theorem qc_emb (y : S512x512.Idx) : ((cfg0.win 2).blk t).view.emb y = (ix2 (row (blockNo t) (y 0)) (y 1) : S32768x512.Idx) :=
  ix_of_block (blockNo t) y _ rfl rfl
theorem qc_flush : ∀ t : Fin cfg0.N, (cfg0.win 2).flush t = true := by decide +kernel
theorem qc_array : (dats m 0 c).arrAt 2 cfg0.N = scaled 512 0 (by omega) (xa m c) (wa m c) :=
  (dats m 0 c).arrAt_eq_of_cover 2 _
    (fun t _ => (Value.flushed2 m c t).trans (funext fun y => (congrFun (qc_block m c t) y).trans (congrArg (scaled 512 0 (by omega) (xa m c) (wa m c)) (qc_emb t y).symm)))
    (fun i => ⟨pointOf (blockOf (i 0)), qc_flush _, mem_of_emb _ (ix2 (placeOf (i 0)) (i 1)) ((qc_emb _ _).trans (ix_place i _ (blockNo_pointOf _)))⟩)

/-- Window 3, the keys: what a point stores, where its block lies, and the array. -/
theorem kc_block : out0_3 (iblk m c 0 t) (iblk m c 1 t) = fun y : S512x512.Idx => part 512 512 (by omega) (xa m c) (wa m c) (ix2 (row (blockNo t) (y 0)) (y 1)) := by
  unfold out0_3
  rw [View.canon_unit_zero offsets_zero, View.ld_unit_zero offsets_zero, View.ld_unit_zero offsets_zero]
  exact ext2 fun a j => (kc_apply _ _ a j).trans ((column_block m c t a _))
theorem kc_emb (y : S512x512.Idx) : ((cfg0.win 3).blk t).view.emb y = (ix2 (row (blockNo t) (y 0)) (y 1) : S32768x512.Idx) :=
  ix_of_block (blockNo t) y _ rfl rfl
theorem kc_flush : ∀ t : Fin cfg0.N, (cfg0.win 3).flush t = true := by decide +kernel
theorem kc_array : (dats m 0 c).arrAt 3 cfg0.N = part 512 512 (by omega) (xa m c) (wa m c) :=
  (dats m 0 c).arrAt_eq_of_cover 3 _
    (fun t _ => (Value.flushed3 m c t).trans (funext fun y => (congrFun (kc_block m c t) y).trans (congrArg (part 512 512 (by omega) (xa m c) (wa m c)) (kc_emb t y).symm)))
    (fun i => ⟨pointOf (blockOf (i 0)), kc_flush _, mem_of_emb _ (ix2 (placeOf (i 0)) (i 1)) ((kc_emb _ _).trans (ix_place i _ (blockNo_pointOf _)))⟩)

/-- Window 4, the values: what a point stores, where its block lies, and the array. -/
theorem vc_block : out0_4 (iblk m c 0 t) (iblk m c 1 t) = fun y : S512x512.Idx => part 512 1024 (by omega) (xa m c) (wa m c) (ix2 (row (blockNo t) (y 0)) (y 1)) := by
  unfold out0_4
  rw [View.canon_unit_zero offsets_zero, View.ld_unit_zero offsets_zero, View.ld_unit_zero offsets_zero]
  exact ext2 fun a j => (vc_apply _ _ a j).trans ((column_block m c t a _))
theorem vc_emb (y : S512x512.Idx) : ((cfg0.win 4).blk t).view.emb y = (ix2 (row (blockNo t) (y 0)) (y 1) : S32768x512.Idx) :=
  ix_of_block (blockNo t) y _ rfl rfl
theorem vc_flush : ∀ t : Fin cfg0.N, (cfg0.win 4).flush t = true := by decide +kernel
theorem vc_array : (dats m 0 c).arrAt 4 cfg0.N = part 512 1024 (by omega) (xa m c) (wa m c) :=
  (dats m 0 c).arrAt_eq_of_cover 4 _
    (fun t _ => (Value.flushed4 m c t).trans (funext fun y => (congrFun (vc_block m c t) y).trans (congrArg (part 512 1024 (by omega) (xa m c) (wa m c)) (vc_emb t y).symm)))
    (fun i => ⟨pointOf (blockOf (i 0)), vc_flush _, mem_of_emb _ (ix2 (placeOf (i 0)) (i 1)) ((vc_emb _ _).trans (ix_place i _ (blockNo_pointOf _)))⟩)

/-- Window 5, the queries of the windowed attention: what a point stores, where its block lies, and the array. -/
theorem qd_block : out0_5 (iblk m c 0 t) (iblk m c 1 t) = fun y : S512x512.Idx => scaled 512 1536 (by omega) (xa m c) (wa m c) (ix2 (row (blockNo t) (y 0)) (y 1)) := by
  unfold out0_5
  rw [View.canon_unit_zero offsets_zero, View.ld_unit_zero offsets_zero, View.ld_unit_zero offsets_zero]
  exact ext2 fun a j => (qd_apply _ _ a j).trans (congrArg (· * _) (column_block m c t a _))
theorem qd_emb (y : S512x512.Idx) : ((cfg0.win 5).blk t).view.emb y = (ix2 (row (blockNo t) (y 0)) (y 1) : S32768x512.Idx) :=
  ix_of_block (blockNo t) y _ rfl rfl
theorem qd_flush : ∀ t : Fin cfg0.N, (cfg0.win 5).flush t = true := by decide +kernel
theorem qd_array : (dats m 0 c).arrAt 5 cfg0.N = scaled 512 1536 (by omega) (xa m c) (wa m c) :=
  (dats m 0 c).arrAt_eq_of_cover 5 _
    (fun t _ => (Value.flushed5 m c t).trans (funext fun y => (congrFun (qd_block m c t) y).trans (congrArg (scaled 512 1536 (by omega) (xa m c) (wa m c)) (qd_emb t y).symm)))
    (fun i => ⟨pointOf (blockOf (i 0)), qd_flush _, mem_of_emb _ (ix2 (placeOf (i 0)) (i 1)) ((qd_emb _ _).trans (ix_place i _ (blockNo_pointOf _)))⟩)

/-- Window 6, the keys: what a point stores, where its block lies, and the array. -/
theorem kd_block : out0_6 (iblk m c 0 t) (iblk m c 1 t) = fun y : S512x128.Idx => part 128 2048 (by omega) (xa m c) (wa m c) (ix2 (row (blockNo t) (y 0)) (y 1)) := by
  unfold out0_6
  rw [View.canon_unit_zero offsets_zero, View.ld_unit_zero offsets_zero, View.ld_unit_zero offsets_zero]
  exact ext2 fun a j => (kd_apply _ _ a j).trans ((column_block m c t a _))
theorem kd_emb (y : S512x128.Idx) : ((cfg0.win 6).blk t).view.emb y = (ix2 (row (blockNo t) (y 0)) (y 1) : S32768x128.Idx) :=
  ix_of_block (blockNo t) y _ rfl rfl
theorem kd_flush : ∀ t : Fin cfg0.N, (cfg0.win 6).flush t = true := by decide +kernel
theorem kd_array : (dats m 0 c).arrAt 6 cfg0.N = part 128 2048 (by omega) (xa m c) (wa m c) :=
  (dats m 0 c).arrAt_eq_of_cover 6 _
    (fun t _ => (Value.flushed6 m c t).trans (funext fun y => (congrFun (kd_block m c t) y).trans (congrArg (part 128 2048 (by omega) (xa m c) (wa m c)) (kd_emb t y).symm)))
    (fun i => ⟨pointOf (blockOf (i 0)), kd_flush _, mem_of_emb _ (ix2 (placeOf (i 0)) (i 1)) ((kd_emb _ _).trans (ix_place i _ (blockNo_pointOf _)))⟩)

/-- Window 7, the values: what a point stores, where its block lies, and the array. -/
theorem vd_block : out0_7 (iblk m c 0 t) (iblk m c 1 t) = fun y : S512x128.Idx => part 128 2176 (by omega) (xa m c) (wa m c) (ix2 (row (blockNo t) (y 0)) (y 1)) := by
  unfold out0_7
  rw [View.canon_unit_zero offsets_zero, View.ld_unit_zero offsets_zero, View.ld_unit_zero offsets_zero]
  exact ext2 fun a j => (vd_apply _ _ a j).trans ((column_block m c t a _))
theorem vd_emb (y : S512x128.Idx) : ((cfg0.win 7).blk t).view.emb y = (ix2 (row (blockNo t) (y 0)) (y 1) : S32768x128.Idx) :=
  ix_of_block (blockNo t) y _ rfl rfl
theorem vd_flush : ∀ t : Fin cfg0.N, (cfg0.win 7).flush t = true := by decide +kernel
theorem vd_array : (dats m 0 c).arrAt 7 cfg0.N = part 128 2176 (by omega) (xa m c) (wa m c) :=
  (dats m 0 c).arrAt_eq_of_cover 7 _
    (fun t _ => (Value.flushed7 m c t).trans (funext fun y => (congrFun (vd_block m c t) y).trans (congrArg (part 128 2176 (by omega) (xa m c) (wa m c)) (vd_emb t y).symm)))
    (fun i => ⟨pointOf (blockOf (i 0)), vd_flush _, mem_of_emb _ (ix2 (placeOf (i 0)) (i 1)) ((vd_emb _ _).trans (ix_place i _ (blockNo_pointOf _)))⟩)

end Cert.ProjIdeal.Proj

end
-- ==== Proof.Proj.Algebraic.lean ====
/-
  The projection's kernel and reference end with the same six results, and the reference leaves its arguments unchanged.
-/
module

public import proofs.«01_k».proof.Defs
public import proofs.«01_k».proof.Proof.Proj.Array
public import Idealize.ShloMosaic.Adequacy

@[expose] public section

set_option maxRecDepth 16384

noncomputable section

namespace Cert.ProjIdeal.Proj

open Idealize.ShloMosaic Idealize.ShloMosaic.TcCoe Idealize.SL.Sem
open Cert.ProjIdeal.Gen
open Cert.ProjReferenceIdeal.Proj (qc_eq kc_eq vc_eq qd_eq kd_eq vd_eq)

/-- The reference's frame: it writes no argument and declares no semaphore. -/
theorem frame_reference : Cert.quiescent_ProjReferenceIdeal := fun m ρ _ =>
  (θ_run Cert.ProjReferenceIdeal.defs _ _).mono
    (fun r h => ⟨fun c => (h c).2.2.2.2.2.2, sem_eq_zero_of_no_sems (by decide) r.2⟩) (Cert.ProjReferenceIdeal.Value.run m ρ)

/-- For all rows and weights the kernel's six results are the reference's, element by element. -/
theorem algebraic : Cert.algebraic_ProjIdeal_ProjReferenceIdeal := by
  intro m g m' g' _ hargs
  refine ⟨fun c => scaled 512 0 (by omega) (xa m c) (wa m c), fun c => part 512 512 (by omega) (xa m c) (wa m c),
    fun c => part 512 1024 (by omega) (xa m c) (wa m c), fun c => scaled 512 1536 (by omega) (xa m c) (wa m c),
    fun c => part 128 2048 (by omega) (xa m c) (wa m c), fun c => part 128 2176 (by omega) (xa m c) (wa m c), ?_, ?_⟩
  · refine (θ_run defs _ _).mono (fun r h c => ?_) (Value.run_blocks m g)
    obtain ⟨h0, h1, h2, h3, h4, h5, hk⟩ := h c
    exact ⟨h0.trans (qc_array m c), h1.trans (kc_array m c), h2.trans (vc_array m c), h3.trans (qd_array m c), h4.trans (kd_array m c),
      h5.trans (vd_array m c), hk⟩
  · refine (θ_run Cert.ProjReferenceIdeal.defs _ _).mono (fun r h c => ?_) (Cert.ProjReferenceIdeal.Value.run m' g')
    obtain ⟨ex, ew⟩ := hargs c
    obtain ⟨h0, h1, h2, h3, h4, h5, hk⟩ := h c
    refine ⟨h0.trans ((qc_eq _ _).trans ?_), h1.trans ((kc_eq _ _).trans ?_), h2.trans ((vc_eq _ _).trans ?_), h3.trans ((qd_eq _ _).trans ?_),
      h4.trans ((kd_eq _ _).trans ?_), h5.trans ((vd_eq _ _).trans ?_), hk⟩
    all_goals rw [ex, ew]

end Cert.ProjIdeal.Proj

end
-- ==== Proof.Reals.Closure.lean ====
/-
  Extended reals that are real numbers, and the operations that keep them so.
-/
module

public import Idealize.ShloMosaic.Lib.Pointwise
public import Idealize.ShloMosaic.Lib.IdealHost

@[expose] public section

noncomputable section

namespace Cert.Reals

open Idealize.ShloMosaic
open scoped BigOperators

/-- The extended real is a real number. -/
def IsReal (x : EReal) : Prop := ∃ r : ℝ, x = r

theorem isReal_of_lt {x : EReal} (h : ⊥ < x) (h' : x < ⊤) : IsReal x := ⟨x.toReal, (EReal.coe_toReal h'.ne h.ne').symm⟩

variable {x y : EReal}

theorem IsReal.add (hx : IsReal x) (hy : IsReal y) : IsReal (x + y) := by
  obtain ⟨a, rfl⟩ := hx; obtain ⟨b, rfl⟩ := hy; exact ⟨a + b, (EReal.coe_add a b).symm⟩
theorem IsReal.sub (hx : IsReal x) (hy : IsReal y) : IsReal (x - y) := by
  obtain ⟨a, rfl⟩ := hx; obtain ⟨b, rfl⟩ := hy; exact ⟨a - b, (EReal.coe_sub a b).symm⟩
theorem IsReal.mul (hx : IsReal x) (hy : IsReal y) : IsReal (x * y) := by
  obtain ⟨a, rfl⟩ := hx; obtain ⟨b, rfl⟩ := hy; exact ⟨a * b, (EReal.coe_mul a b).symm⟩

/-- A real minus itself is zero; an infinity minus itself is not. -/
theorem IsReal.sub_self (hx : IsReal x) : x - x = 0 := by
  obtain ⟨a, rfl⟩ := hx; rw [← EReal.coe_sub, _root_.sub_self]; rfl

/-- A sum of reals is the real sum. -/
theorem coe_sum {ι : Type} (s : Finset ι) (f : ι → ℝ) : ∑ k ∈ s, (f k : EReal) = ((∑ k ∈ s, f k : ℝ) : EReal) := by
  classical
  induction s using Finset.induction with
  | empty => simp
  | insert a s ha ih => rw [Finset.sum_insert ha, Finset.sum_insert ha, ih, EReal.coe_add]

theorem IsReal.sum {ι : Type} (s : Finset ι) {f : ι → EReal} (h : ∀ k, IsReal (f k)) : IsReal (∑ k ∈ s, f k) := by
  choose g hg using h
  exact ⟨∑ k ∈ s, g k, (Finset.sum_congr rfl fun k _ => hg k).trans (coe_sum s g)⟩

theorem IsReal.div (hx : IsReal x) {r : ℝ} (hr : r ≠ 0) : IsReal (Ideal.div x r) := by
  obtain ⟨a, rfl⟩ := hx; exact ⟨a * (1 / r), by rw [Ideal.div_coe hr, EReal.coe_mul]⟩

/-- The reciprocal square root of a positive real is real. -/
theorem isReal_rsqrt {r : ℝ} (hr : 0 < r) : IsReal (Ideal.rsqrt r) :=
  ⟨(Real.sqrt r)⁻¹, by rw [Ideal.rsqrt_coe, if_neg hr.not_gt, if_neg hr.ne']⟩

end Cert.Reals

end
-- ==== Proof.OutLn.Norm.lean ====
/-
  The output projection's row in plain formulas: residual plus product, layer norm, router logits; and when its entries are real.
-/
module

public import proofs.«01_k».proof.Proof.Reals.Closure

@[expose] public section

noncomputable section

namespace Cert.OutLnIdeal.OutLn

open Idealize.ShloMosaic
open Cert.Reals
open scoped BigOperators

/-- A row of the residual, scaled by the fourth root of 8, plus a row of the projection. -/
def preNorm (cat : Fin 1024 → EReal) (w : Fin 1024 → Fin 1024 → EReal) (x : Fin 1024 → EReal) (j : Fin 1024) : EReal :=
  Ideal.ofBits .f32 0x3FD744FD#32 * x j + ∑ k : Fin 1024, cat k * w k j

/-- A row's mean, -/
def mean (z : Fin 1024 → EReal) : EReal := Ideal.div (∑ k : Fin 1024, z k) (Ideal.ofBits .f32 0x44800000#32)

/-- its distance from the mean, -/
def centred (z : Fin 1024 → EReal) (j : Fin 1024) : EReal := z j - mean z

/-- and the row normed: centred, over the root of its variance plus 1e-5, times the gain plus the bias. -/
def normed (z : Fin 1024 → EReal) (g b : Fin 1024 → EReal) (j : Fin 1024) : EReal :=
  centred z j * Ideal.rsqrt (mean (fun k => centred z k * centred z k) + Ideal.ofBits .f32 0x3727C5AC#32) * g j + b j

/-- The words of the constants as reals: the residual's factor, the width 1024 and the small positive number under the root. -/
theorem real_alpha : IsReal (Ideal.ofBits .f32 0x3FD744FD#32) := ⟨_, by simp only [Ideal.ofBits, Ideal.ieee]; rfl⟩
theorem ofBits_width : Ideal.ofBits .f32 0x44800000#32 = ((1024 : ℝ) : EReal) := by
  simp [Ideal.ofBits, Ideal.ieee, -EReal.coe_mul]; norm_num
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

variable {z g b : Fin 1024 → EReal}

theorem real_mean (h : ∀ j, IsReal (z j)) : IsReal (mean z) := by
  unfold mean; rw [ofBits_width]; exact (IsReal.sum _ h).div (by norm_num)

theorem real_centred (h : ∀ j, IsReal (z j)) (j : Fin 1024) : IsReal (centred z j) := (h j).sub (real_mean h)

/-- A mean of squares of reals is a real that is not negative. -/
theorem mean_square {f : Fin 1024 → EReal} (h : ∀ j, IsReal (f j)) : ∃ r : ℝ, 0 ≤ r ∧ mean (fun k => f k * f k) = r := by
  choose u hu using h
  refine ⟨(∑ k, u k * u k) * (1 / 1024), mul_nonneg (Finset.sum_nonneg fun k _ => mul_self_nonneg _) (by norm_num), ?_⟩
  unfold mean
  rw [ofBits_width, Ideal.div_coe (by norm_num), EReal.coe_mul, ← coe_sum]
  exact congrArg (· * _) (Finset.sum_congr rfl fun k _ => by simp only [hu, EReal.coe_mul])

/-- A normed row of reals with real gain and bias is real: the number under the root is positive. -/
theorem real_normed (h : ∀ j, IsReal (z j)) (hg : ∀ j, IsReal (g j)) (hb : ∀ j, IsReal (b j)) (j : Fin 1024) : IsReal (normed z g b j) := by
  obtain ⟨r, hr, er⟩ := mean_square (real_centred h)
  obtain ⟨e, he, ee⟩ := eps_pos
  unfold normed
  rw [er, ee, ← EReal.coe_add]
  exact (((real_centred h j).mul (isReal_rsqrt (by positivity))).mul (hg j)).add (hb j)

theorem real_preNorm {cat x : Fin 1024 → EReal} {w : Fin 1024 → Fin 1024 → EReal} (hc : ∀ k, IsReal (cat k)) (hw : ∀ k j, IsReal (w k j))
    (hx : ∀ j, IsReal (x j)) (j : Fin 1024) : IsReal (preNorm cat w x j) :=
  (real_alpha.mul (hx j)).add (IsReal.sum _ fun k => (hc k).mul (hw k j))

/-- The logits from a row and weights, each split in a rounded part and what the rounding left: over the reals nothing is left, so the
    split logits are the row times the weights. -/
theorem split_logit {u w : Fin 1024 → EReal} (hu : ∀ k, IsReal (u k)) (hw : ∀ k, IsReal (w k)) (b : EReal) :
    (∑ k : Fin 1024, u k * w k) + (∑ k : Fin 1024, (u k - u k) * w k) + (∑ k : Fin 1024, u k * (w k - w k)) + b
      = (∑ k : Fin 1024, u k * w k) + b := by
  have h1 : ∑ k : Fin 1024, (u k - u k) * w k = 0 := Finset.sum_eq_zero fun k _ => by rw [(hu k).sub_self, zero_mul]
  have h2 : ∑ k : Fin 1024, u k * (w k - w k) = 0 := Finset.sum_eq_zero fun k _ => by rw [(hw k).sub_self, mul_zero]
  rw [h1, h2, add_zero, add_zero]

end Cert.OutLnIdeal.OutLn

end
-- ==== Proof.OutLn.Payload.lean ====
/-
  What the output projection's kernel stores from its block of rows, read at one row and one column.
-/
module

public import proofs.«01_k».proof.Proof.Gen.OutLnIdeal.Skeleton
public import proofs.«01_k».proof.Proof.OutLn.Norm
public import proofs.«01_k».proof.Proof.Rows.Block

@[expose] public section

set_option maxRecDepth 16384

noncomputable section

namespace Cert.OutLnIdeal.OutLn

open Idealize.ShloMosaic Idealize.ShloMosaic.TcCoe Idealize.ShloMosaic.Tactic
open Idealize.ShloMosaic.Pointwise
open Cert.OutLnIdeal.Gen

variable (cat : Vec Ideal S512x1024 .bf16) (w : Vec Ideal S1024x1024 .bf16) (x : Vec Ideal S512x1024 .f32) (g b : Vec Ideal S1x1024 .f32)

/-- A row of the block normed. -/
abbrev blockRow (a : Fin 512) : Fin 1024 → EReal :=
  normed (preNorm (fun k => cat (ix2 a k)) (fun k j => w (ix2 k j)) (fun j => x (ix2 a j))) (fun j => g (ix2 0 j)) (fun j => b (ix2 0 j))

/-- The kernel stores it in f32, -/
theorem normed_apply (a : Fin 512) (j : Fin 1024) : k0_pay2 cat w x g b (ix2 a j) = blockRow cat w x g b a j := by
  pointwise [k0_pay2, blockRow, normed, centred, mean, preNorm]

/-- in bf16, and rounded back: over the reals the same numbers. -/
theorem rounded_eq : k0_pay3 cat w x g b = k0_pay2 cat w x g b := rfl
theorem widened_eq : k0_pay4 cat w x g b = k0_pay2 cat w x g b := rfl

/-- The logits it stores: the row in two parts times the weights in two parts, without the product of both small parts, plus the bias. -/
theorem logits_apply (v : FVec Ideal S512x1024 .f32) (hi : FVec Ideal S512x1024 .bf16) (back : FVec Ideal S512x1024 .f32)
    (whi wlo : Vec Ideal S1024x32 .bf16) (rb : Vec Ideal S1x32 .f32) (a : Fin 512) (e : Fin 32) :
    k0_pay1 v hi back whi whi wlo rb (ix2 a e)
      = (∑ k : Fin 1024, hi (ix2 a k) * whi (ix2 k e)) + (∑ k : Fin 1024, (v (ix2 a k) - back (ix2 a k)) * whi (ix2 k e))
        + (∑ k : Fin 1024, hi (ix2 a k) * wlo (ix2 k e)) + rb (ix2 0 e) := by
  pointwise [k0_pay1]

end Cert.OutLnIdeal.OutLn

end
-- ==== Proof.OutLn.Blocks.lean ====
/-
  The output projection's blocks: which elements of the arguments each grid point has before it.
-/
module

public import proofs.«01_k».proof.Proof.Gen.OutLnIdeal.Value
public import proofs.«01_k».proof.Proof.OutLn.Payload

@[expose] public section

set_option maxRecDepth 16384

noncomputable section

namespace Cert.OutLnIdeal.OutLn

open Idealize.ShloMosaic Idealize.ShloMosaic.TcCoe Idealize.ShloMosaic.Tactic Idealize.ShloMosaic.StableHlo
open Idealize.ShloMosaic.Pointwise
open Cert.OutLnIdeal.Gen Cert.Rows

variable (m : (ℓ : Loc nD τ sig) → Buf (Elt Ideal) ℓ) (c : Dev nD) (t : Fin cfg0.N)

/-- The arguments. -/
abbrev cata : FVec Ideal S32768x1024 .bf16 := m ((c.tc : Thread nD τ).loc main_arg0)
abbrev wa : FVec Ideal S1024x1024 .f32 := m ((c.tc : Thread nD τ).loc main_arg1)
abbrev xa : FVec Ideal S32768x1024 .f32 := m ((c.tc : Thread nD τ).loc main_arg2)
abbrev ga : FVec Ideal S1024 .f32 := m ((c.tc : Thread nD τ).loc main_arg3)
abbrev ba : FVec Ideal S1024 .f32 := m ((c.tc : Thread nD τ).loc main_arg4)
abbrev rwa : FVec Ideal S1024x32 .f32 := m ((c.tc : Thread nD τ).loc main_arg5)
abbrev rba : FVec Ideal S32 .f32 := m ((c.tc : Thread nD τ).loc main_arg6)

/-- The point's number along the one grid axis: its own number. -/
def blockNo : Fin 64 := grid0.coords t 0
theorem blockNo_val (t : Fin grid0.N) : (blockNo t).val = t.val := by
  have h : ∀ t : Fin grid0.N, (grid0.coords t 0).val = t.val := by decide +kernel
  exact h t

/-- The point of a block. -/
def pointOf (n : Fin 64) : Fin cfg0.N := ⟨n.val, n.isLt.trans_eq N_0.symm⟩
theorem blockNo_pointOf (n : Fin 64) : blockNo (pointOf n) = n := Fin.ext (blockNo_val _)

/-- A point's blocks of the arguments and of what the host makes of them. -/
abbrev catBlock : FVec Ideal S512x1024 .bf16 := iblk m c 0 t
abbrev wBlock : FVec Ideal S1024x1024 .bf16 := iblk m c 1 t
abbrev xBlock : FVec Ideal S512x1024 .f32 := iblk m c 2 t
abbrev gBlock : FVec Ideal S1x1024 .f32 := iblk m c 3 t
abbrev bBlock : FVec Ideal S1x1024 .f32 := iblk m c 4 t
abbrev hiBlock : FVec Ideal S1024x32 .bf16 := iblk m c 5 t
abbrev loBlock : FVec Ideal S1024x32 .bf16 := iblk m c 6 t
abbrev rbBlock : FVec Ideal S1x32 .f32 := iblk m c 7 t

/-- Each point has 512 rows of both arrays of rows. -/
theorem cat_block (a : Fin 512) (k : Fin 1024) : catBlock m c t (ix2 a k) = cata m c (ix2 (row (blockNo t) a) k) := by
  have hV : V m c main_arg0 = m ((c.tc : Thread nD τ).loc main_arg0) := V_main_arg0 m c
  unfold cata
  rw [← hV]
  exact congrArg (V m c main_arg0) (ix_of_block (blockNo t) (ix2 a k) _ rfl rfl)
theorem x_block (a : Fin 512) (k : Fin 1024) : xBlock m c t (ix2 a k) = xa m c (ix2 (row (blockNo t) a) k) := by
  have hV : V m c main_arg2 = m ((c.tc : Thread nD τ).loc main_arg2) := V_main_arg2 m c
  unfold xa
  rw [← hV]
  exact congrArg (V m c main_arg2) (ix_of_block (blockNo t) (ix2 a k) _ rfl rfl)

/-- The other arrays as the host prepares them: rounded, or with an axis of one element in front. -/
theorem V_w : V m c main_v4 = truncf (s := S1024x1024) .bf16 (wa m c) bitsLt_bf16_f32 := by
  unfold V; simp only [hostOps0]; after_results_simp <;> rfl
theorem V_g : V m c main_v5 = shapeCast S1x1024 (ga m c) shapeCasts_S1024_S1x1024 := by
  unfold V; simp only [hostOps0]; after_results_simp <;> rfl
theorem V_b : V m c main_v6 = shapeCast S1x1024 (ba m c) shapeCasts_S1024_S1x1024 := by
  unfold V; simp only [hostOps0]; after_results_simp <;> rfl
theorem V_hi : V m c main_v0 = truncf (s := S1024x32) .bf16 (rwa m c) bitsLt_bf16_f32 := by
  unfold V; simp only [hostOps0]; after_results_simp <;> rfl
theorem V_lo : V m c main_v3 = truncf (s := S1024x32) .bf16
    (subf (rwa m c) (extf .f32 (truncf (s := S1024x32) .bf16 (rwa m c) bitsLt_bf16_f32) bitsLt_bf16_f32)) bitsLt_bf16_f32 := by
  unfold V; simp only [hostOps0]; after_results_simp <;> rfl
theorem V_rb : V m c main_v7 = shapeCast S1x32 (rba m c) shapeCasts_S32_S1x32 := by
  unfold V; simp only [hostOps0]; after_results_simp <;> rfl

/-- An index of a block that is the whole array. -/
theorem whole_ix {A B : ℕ} (y z : (⟨2, ![A, B]⟩ : Shape).Idx) (h0 : (y 0).val = 0 * A + 1 * (z 0).val) (h1 : (y 1).val = 0 * B + 1 * (z 1).val) :
    y = z :=
  funext fun b => Fin.ext (match b with
    | ⟨0, _⟩ => h0.trans (show 0 * A + 1 * (z 0).val = (z 0).val by omega)
    | ⟨1, _⟩ => h1.trans (show 0 * B + 1 * (z 1).val = (z 1).val by omega))

/-- Each point has them whole. -/
theorem w_block (k : Fin 1024) (j : Fin 1024) : wBlock m c t (ix2 k j) = wa m c (ix2 k j) := by
  refine Eq.trans (b := (V m c main_v4 : FVec Ideal S1024x1024 .bf16) (ix2 k j)) (congrArg (V m c main_v4) (whole_ix _ _ rfl rfl)) ?_
  rw [V_w]; rfl
theorem g_block (j : Fin 1024) : gBlock m c t (ix2 0 j) = ga m c (ix1 j) := by
  refine Eq.trans (b := (V m c main_v5 : FVec Ideal S1x1024 .f32) (ix2 0 j)) (congrArg (V m c main_v5) (whole_ix _ _ rfl rfl)) ?_
  rw [V_g]; pointwise []
theorem b_block (j : Fin 1024) : bBlock m c t (ix2 0 j) = ba m c (ix1 j) := by
  refine Eq.trans (b := (V m c main_v6 : FVec Ideal S1x1024 .f32) (ix2 0 j)) (congrArg (V m c main_v6) (whole_ix _ _ rfl rfl)) ?_
  rw [V_b]; pointwise []
theorem hi_block (k : Fin 1024) (e : Fin 32) : hiBlock m c t (ix2 k e) = rwa m c (ix2 k e) := by
  refine Eq.trans (b := (V m c main_v0 : FVec Ideal S1024x32 .bf16) (ix2 k e)) (congrArg (V m c main_v0) (whole_ix _ _ rfl rfl)) ?_
  rw [V_hi]; rfl
/-- What the rounding left of the router's weights is, over the reals, the weights less themselves. -/
theorem lo_block (k : Fin 1024) (e : Fin 32) : loBlock m c t (ix2 k e) = rwa m c (ix2 k e) - rwa m c (ix2 k e) := by
  refine Eq.trans (b := (V m c main_v3 : FVec Ideal S1024x32 .bf16) (ix2 k e)) (congrArg (V m c main_v3) (whole_ix _ _ rfl rfl)) ?_
  rw [V_lo]; rfl
theorem rb_block (e : Fin 32) : rbBlock m c t (ix2 0 e) = rba m c (ix1 e) := by
  refine Eq.trans (b := (V m c main_v7 : FVec Ideal S1x32 .f32) (ix2 0 e)) (congrArg (V m c main_v7) (whole_ix _ _ rfl rfl)) ?_
  rw [V_rb]; pointwise []

end Cert.OutLnIdeal.OutLn

end
-- ==== Proof.OutLn.Reference.lean ====
/-
  The output projection's reference, read at one row and one column.
-/
module

public import proofs.«01_k».proof.Proof.Gen.OutLnReferenceIdeal.Run
public import proofs.«01_k».proof.Proof.OutLn.Norm
public import proofs.«01_k».proof.Proof.Rows.Block

@[expose] public section

set_option maxRecDepth 16384

noncomputable section

namespace Cert.OutLnReferenceIdeal.OutLn

open Idealize.ShloMosaic Idealize.ShloMosaic.TcCoe Idealize.ShloMosaic.Tactic Idealize.SL.Sem
open Idealize.ShloMosaic.Pointwise
open Cert.OutLnReferenceIdeal Cert.OutLnReferenceIdeal.Gen
open Cert.OutLnIdeal.OutLn (preNorm mean centred normed)

/-- Each row of the arguments: the residual scaled plus the product, normed. -/
def rows (cat : FVec Ideal S32768x1024 .bf16) (w : FVec Ideal S1024x1024 .f32) (x : FVec Ideal S32768x1024 .f32) (g b : FVec Ideal S1024 .f32) :
    FVec Ideal S32768x1024 .f32 :=
  fun y => normed (preNorm (fun k => cat (ix2 (y 0) k)) (fun k j => w (ix2 k j)) (fun j => x (ix2 (y 0) j))) (fun j => g (ix1 j)) (fun j => b (ix1 j)) (y 1)

/-- The logits of rows: the rows times the router's weights, plus its bias. -/
def logits (x1 : FVec Ideal S32768x1024 .f32) (rw : FVec Ideal S1024x32 .f32) (rb : FVec Ideal S32 .f32) : FVec Ideal S32768x32 .f32 :=
  fun y => (∑ k : Fin 1024, x1 (ix2 (y 0) k) * rw (ix2 k (y 1))) + rb (ix1 (y 1))

variable (cat : FVec Ideal S32768x1024 .bf16) (w : FVec Ideal S1024x1024 .f32) (x : FVec Ideal S32768x1024 .f32) (g b : FVec Ideal S1024 .f32)

/-- The reference's rows before the norm. -/
abbrev before : FVec Ideal S32768x1024 .f32 :=
  addf (mulf (broadcastInDim S32768x1024 ![] bcast_S_S32768x1024 (constant S_ .f32 0x3FD744FD#32)) x)
    (Host.dotGeneral dot_S32768x1024_S1024x1024_S32768x1024_1_0_0_1_n_n none (extf .f32 cat bitsLt_bf16_f32) w)

theorem before_apply (r : Fin 32768) (j : Fin 1024) :
    before cat w x (ix2 r j) = preNorm (fun k => cat (ix2 r k)) (fun k j => w (ix2 k j)) (fun j => x (ix2 r j)) j := by
  pointwise [before, preNorm]

variable (z : FVec Ideal S32768x1024 .f32)

/-- The reference's mean of each row, -/
abbrev means : FVec Ideal S32768x1 .f32 :=
  Host.divf (broadcastInDim S32768x1 ![0] bcast_S32768_S32768x1_0
      (Host.reduceAdd z (constant S_ .f32 0x00000000#32) reducesTo_S32768x1024_S32768_d1 h_S_))
    (broadcastInDim S32768x1 ![] bcast_S_S32768x1 (constant S_ .f32 0x44800000#32))

theorem means_apply (r : Fin 32768) (o : Fin 1) : means z (ix2 r o) = mean fun k => z (ix2 r k) := by
  pointwise [means, mean]

/-- the rows centred, -/
abbrev centredRows : FVec Ideal S32768x1024 .f32 :=
  subf z (broadcastInDim S32768x1024 ![0, 1] bcast_S32768x1_S32768x1024_0_1 (means z))

theorem centredRows_apply (r : Fin 32768) (j : Fin 1024) : centredRows z (ix2 r j) = centred (fun k => z (ix2 r k)) j := by
  pointwise [centredRows, centred, means, mean]

/-- and the rows normed. -/
abbrev normedRows : FVec Ideal S32768x1024 .f32 :=
  addf (mulf (mulf (centredRows z) (broadcastInDim S32768x1024 ![0, 1] bcast_S32768x1_S32768x1024_0_1
        (Host.rsqrt (addf (means (mulf (centredRows z) (centredRows z)))
          (broadcastInDim S32768x1 ![] bcast_S_S32768x1 (constant S_ .f32 0x3727C5AC#32))))))
      (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

theorem normedRows_apply (r : Fin 32768) (j : Fin 1024) :
    normedRows g b z (ix2 r j) = normed (fun k => z (ix2 r k)) (fun k => g (ix1 k)) (fun k => b (ix1 k)) j := by
  pointwise [normedRows, normed, centredRows, centred, means, mean]

/-- The reference's first two results: the rows of `rows`. -/
theorem rows_eq : normedRows g b (before cat w x) = rows cat w x g b := by
  refine Cert.Rows.ext2 fun r j => (normedRows_apply g b (before cat w x) r j).trans ?_
  have e : (fun k => before cat w x (ix2 r k)) = preNorm (fun k => cat (ix2 r k)) (fun k j => w (ix2 k j)) (fun j => x (ix2 r j)) :=
    funext fun k => before_apply cat w x r k
  rw [e]
  rfl

/-- Its third: the logits of the normed rows. -/
theorem logits_eq (rw' : FVec Ideal S1024x32 .f32) (rb : FVec Ideal S32 .f32) :
    (addf (Host.dotGeneral dot_S32768x1024_S1024x32_S32768x32_1_0_0_1_n_n none z rw')
      (broadcastInDim S32768x32 ![0, 1] bcast_S1x32_S32768x32_0_1 (broadcastInDim S1x32 ![1] bcast_S32_S1x32_1 rb)) : FVec Ideal S32768x32 .f32)
      = logits z rw' rb := by
  refine Cert.Rows.ext2 fun r e => ?_
  pointwise [logits]

variable (m : (ℓ : Loc nD τ sig) → Buf (Elt Ideal) ℓ)

/-- The reference's arguments. -/
abbrev cat' (c : Dev nD) : FVec Ideal S32768x1024 .bf16 := m ((c.tc : Thread nD τ).loc main_arg0)
abbrev w' (c : Dev nD) : FVec Ideal S1024x1024 .f32 := m ((c.tc : Thread nD τ).loc main_arg1)
abbrev x' (c : Dev nD) : FVec Ideal S32768x1024 .f32 := m ((c.tc : Thread nD τ).loc main_arg2)
abbrev g' (c : Dev nD) : FVec Ideal S1024 .f32 := m ((c.tc : Thread nD τ).loc main_arg3)
abbrev b' (c : Dev nD) : FVec Ideal S1024 .f32 := m ((c.tc : Thread nD τ).loc main_arg4)
abbrev rw' (c : Dev nD) : FVec Ideal S1024x32 .f32 := m ((c.tc : Thread nD τ).loc main_arg5)
abbrev rb' (c : Dev nD) : FVec Ideal S32 .f32 := m ((c.tc : Thread nD τ).loc main_arg6)
/-- Its normed rows. -/
abbrev rows' (c : Dev nD) : FVec Ideal S32768x1024 .f32 := rows (cat' m c) (w' m c) (x' m c) (g' m c) (b' m c)

/-- The reference's run leaves the rows, the rows in bf16 and the logits, and its arguments as they were. -/
theorem run_rows (ρ : Dev nD → PrngReg) :
    θ_run defs (onTc (τ := τ) main) ⟨m, fun _ => 0, ρ⟩ fun r => ∀ c : Dev nD,
      r.2.mem ((c.tc : Thread nD τ).loc main_v26) = rows' m c
      ∧ r.2.mem ((c.tc : Thread nD τ).loc main_v27) = truncf .bf16 (rows' m c) bitsLt_bf16_f32
      ∧ r.2.mem ((c.tc : Thread nD τ).loc main_v31) = logits (rows' m c) (rw' m c) (rb' m c)
      ∧ r.2.mem ((c.tc : Thread nD τ).loc main_arg0) = cat' m c
      ∧ r.2.mem ((c.tc : Thread nD τ).loc main_arg1) = w' m c
      ∧ r.2.mem ((c.tc : Thread nD τ).loc main_arg2) = x' m c
      ∧ r.2.mem ((c.tc : Thread nD τ).loc main_arg3) = g' m c
      ∧ r.2.mem ((c.tc : Thread nD τ).loc main_arg4) = b' m c
      ∧ r.2.mem ((c.tc : Thread nD τ).loc main_arg5) = rw' m c
      ∧ r.2.mem ((c.tc : Thread nD τ).loc main_arg6) = rb' m c := by
  refine (θ_run defs _ _).mono (fun r h c => ?_) (Value.run m ρ)
  obtain ⟨h0, h1, h2, hk⟩ := h c
  have e := rows_eq (cat' m c) (w' m c) (x' m c) (g' m c) (b' m c)
  exact ⟨h0.trans e, h1.trans (congrArg (fun v => truncf .bf16 v bitsLt_bf16_f32) e),
    h2.trans ((logits_eq _ _ _).trans (congrArg (fun v => logits v (rw' m c) (rb' m c)) e)), hk⟩

end Cert.OutLnReferenceIdeal.OutLn

end
-- ==== Proof.OutLn.Array.lean ====
/-
  The output projection's three arrays after the run: each block of 512 rows is a block of the rows normed, and the blocks tile the arrays.
-/
module

public import proofs.«01_k».proof.Proof.OutLn.Blocks
public import proofs.«01_k».proof.Proof.OutLn.Reference

@[expose] public section

set_option maxRecDepth 16384

noncomputable section

namespace Cert.OutLnIdeal.OutLn

open Idealize.ShloMosaic Idealize.ShloMosaic.TcCoe Idealize.ShloMosaic.Tactic Idealize.ShloMosaic.StableHlo
open Idealize.ShloMosaic.Pointwise
open Cert.OutLnIdeal.Gen Cert.Rows Cert.Reals
open Cert.OutLnReferenceIdeal.OutLn (rows logits)

variable (m : (ℓ : Loc nD τ sig) → Buf (Elt Ideal) ℓ) (c : Dev nD) (t : Fin cfg0.N)

/-- The rows of the kernel's arguments normed. -/
abbrev rowsA : FVec Ideal S32768x1024 .f32 := rows (cata m c) (wa m c) (xa m c) (ga m c) (ba m c)

/-- A row of a point's block normed is a row of the arguments normed. -/
theorem row_block (a : Fin 512) (j : Fin 1024) :
    blockRow (catBlock m c t) (wBlock m c t) (xBlock m c t) (gBlock m c t) (bBlock m c t) a j = rowsA m c (ix2 (row (blockNo t) a) j) := by
  have e1 : (fun k => catBlock m c t (ix2 a k)) = fun k => cata m c (ix2 (row (blockNo t) a) k) := funext fun k => cat_block m c t a k
  have e2 : (fun k j => wBlock m c t (ix2 k j)) = fun k j => wa m c (ix2 k j) := funext fun k => funext fun j => w_block m c t k j
  have e3 : (fun j => xBlock m c t (ix2 a j)) = fun j => xa m c (ix2 (row (blockNo t) a) j) := funext fun j => x_block m c t a j
  have e4 : (fun j => gBlock m c t (ix2 0 j)) = fun j => ga m c (ix1 j) := funext fun j => g_block m c t j
  have e5 : (fun j => bBlock m c t (ix2 0 j)) = fun j => ba m c (ix1 j) := funext fun j => b_block m c t j
  unfold blockRow
  rw [e1, e2, e3, e4, e5]
  rfl

/-- The payload of a point's blocks. -/
theorem stored_row (a : Fin 512) (j : Fin 1024) :
    k0_pay2 (catBlock m c t) (wBlock m c t) (xBlock m c t) (gBlock m c t) (bBlock m c t) (ix2 a j) = rowsA m c (ix2 (row (blockNo t) a) j) :=
  (normed_apply _ _ _ _ _ a j).trans (row_block m c t a j)

/-- The two offsets of a whole block. -/
theorem offsets_zero : (![0, 0] : Fin 2 → ℕ) = fun _ => 0 := by decide

/-- Window 8, the normed rows: what a point stores, where its block lies, and the array. -/
theorem x1_block : out0_8 (iblk m c 0 t) (iblk m c 1 t) (iblk m c 2 t) (iblk m c 3 t) (iblk m c 4 t) (iblk m c 5 t) (iblk m c 6 t) (iblk m c 7 t)
    = fun y : S512x1024.Idx => rowsA m c (ix2 (row (blockNo t) (y 0)) (y 1)) := by
  unfold out0_8
  rw [View.canon_unit_zero offsets_zero]
  iterate 5 rw [View.ld_unit_zero offsets_zero]
  exact ext2 fun a j => stored_row m c t a j
theorem x1_emb (y : S512x1024.Idx) : ((cfg0.win 8).blk t).view.emb y = (ix2 (row (blockNo t) (y 0)) (y 1) : S32768x1024.Idx) :=
  ix_of_block (blockNo t) y _ rfl rfl
theorem x1_flush : ∀ t : Fin cfg0.N, (cfg0.win 8).flush t = true := by decide +kernel
theorem x1_array : (dats m 0 c).arrAt 8 cfg0.N = rowsA m c :=
  (dats m 0 c).arrAt_eq_of_cover 8 _ (fun t _ => (Value.flushed8 m c t).trans
      (funext fun y => (congrFun (x1_block m c t) y).trans (congrArg (rowsA m c) (x1_emb t y).symm)))
    (fun i => ⟨pointOf (blockOf (i 0)), x1_flush _,
      mem_of_emb _ (ix2 (placeOf (i 0)) (i 1)) ((x1_emb _ _).trans (ix_place i _ (blockNo_pointOf _)))⟩)

/-- Window 9, the same rows in bf16. -/
theorem x1b_block : out0_9 (iblk m c 0 t) (iblk m c 1 t) (iblk m c 2 t) (iblk m c 3 t) (iblk m c 4 t) (iblk m c 5 t) (iblk m c 6 t) (iblk m c 7 t)
    = fun y : S512x1024.Idx => truncf .bf16 (rowsA m c) bitsLt_bf16_f32 (ix2 (row (blockNo t) (y 0)) (y 1)) := by
  unfold out0_9
  rw [View.canon_unit_zero offsets_zero]
  iterate 5 rw [View.ld_unit_zero offsets_zero]
  exact ext2 fun a j => stored_row m c t a j
theorem x1b_emb (y : S512x1024.Idx) : ((cfg0.win 9).blk t).view.emb y = (ix2 (row (blockNo t) (y 0)) (y 1) : S32768x1024.Idx) :=
  ix_of_block (blockNo t) y _ rfl rfl
theorem x1b_flush : ∀ t : Fin cfg0.N, (cfg0.win 9).flush t = true := by decide +kernel
theorem x1b_array : (dats m 0 c).arrAt 9 cfg0.N = truncf .bf16 (rowsA m c) bitsLt_bf16_f32 :=
  (dats m 0 c).arrAt_eq_of_cover 9 _ (fun t _ => (Value.flushed9 m c t).trans
      (funext fun y => (congrFun (x1b_block m c t) y).trans (congrArg (truncf .bf16 (rowsA m c) bitsLt_bf16_f32) (x1b_emb t y).symm)))
    (fun i => ⟨pointOf (blockOf (i 0)), x1b_flush _,
      mem_of_emb _ (ix2 (placeOf (i 0)) (i 1)) ((x1b_emb _ _).trans (ix_place i _ (blockNo_pointOf _)))⟩)

/-- Window 10, the logits. Where the normed rows and the router's weights are real, nothing is left of the parts that the roundings leave. -/
theorem logit_block (hx : ∀ r j, IsReal (rowsA m c (ix2 r j))) (hw : ∀ k e, IsReal (rwa m c (ix2 k e))) (a : Fin 512) (e : Fin 32) :
    k0_pay1 (k0_pay2 (catBlock m c t) (wBlock m c t) (xBlock m c t) (gBlock m c t) (bBlock m c t))
        (k0_pay3 (catBlock m c t) (wBlock m c t) (xBlock m c t) (gBlock m c t) (bBlock m c t))
        (k0_pay4 (catBlock m c t) (wBlock m c t) (xBlock m c t) (gBlock m c t) (bBlock m c t))
        (hiBlock m c t) (hiBlock m c t) (loBlock m c t) (rbBlock m c t) (ix2 a e)
      = logits (rowsA m c) (rwa m c) (rba m c) (ix2 (row (blockNo t) a) e) := by
  rw [rounded_eq, widened_eq]
  refine (logits_apply _ _ _ _ _ _ a e).trans ?_
  simp only [stored_row m c t a, hi_block m c t, lo_block m c t, rb_block m c t]
  exact split_logit (fun k => hx _ k) (fun k => hw k e) _
theorem logits_block (hx : ∀ r j, IsReal (rowsA m c (ix2 r j))) (hw : ∀ k e, IsReal (rwa m c (ix2 k e))) :
    out0_10 (iblk m c 0 t) (iblk m c 1 t) (iblk m c 2 t) (iblk m c 3 t) (iblk m c 4 t) (iblk m c 5 t) (iblk m c 6 t) (iblk m c 7 t)
      = fun y : S512x32.Idx => logits (rowsA m c) (rwa m c) (rba m c) (ix2 (row (blockNo t) (y 0)) (y 1)) := by
  unfold out0_10
  rw [View.canon_unit_zero offsets_zero]
  iterate 8 rw [View.ld_unit_zero offsets_zero]
  exact ext2 fun a e => logit_block m c t hx hw a e
theorem logits_emb (y : S512x32.Idx) : ((cfg0.win 10).blk t).view.emb y = (ix2 (row (blockNo t) (y 0)) (y 1) : S32768x32.Idx) :=
  ix_of_block (blockNo t) y _ rfl rfl
theorem logits_flush : ∀ t : Fin cfg0.N, (cfg0.win 10).flush t = true := by decide +kernel
theorem logits_array (hx : ∀ r j, IsReal (rowsA m c (ix2 r j))) (hw : ∀ k e, IsReal (rwa m c (ix2 k e))) :
    (dats m 0 c).arrAt 10 cfg0.N = logits (rowsA m c) (rwa m c) (rba m c) :=
  (dats m 0 c).arrAt_eq_of_cover 10 _ (fun t _ => (Value.flushed10 m c t).trans
      (funext fun y => (congrFun (logits_block m c t hx hw) y).trans (congrArg (logits (rowsA m c) (rwa m c) (rba m c)) (logits_emb t y).symm)))
    (fun i => ⟨pointOf (blockOf (i 0)), logits_flush _,
      mem_of_emb _ (ix2 (placeOf (i 0)) (i 1)) ((logits_emb _ _).trans (ix_place i _ (blockNo_pointOf _)))⟩)

end Cert.OutLnIdeal.OutLn

end
-- ==== Proof.OutLn.Finite.lean ====
/-
  What the precondition says: every element of the six arrays is a real number.
-/
module

public import proofs.«01_k».proof.Proof.Gen.Pre_all_finite
public import proofs.«01_k».proof.Proof.Reals.Closure
public import Idealize.ShloMosaic.Lib.Pointwise
public import Idealize.ShloMosaic.Lib.ReduceAll
public import Idealize.ShloMosaic.Lib.StableHlo.Predicate

@[expose] public section

set_option maxRecDepth 16384

noncomputable section

namespace Cert.OutLnIdeal.OutLn

open Idealize.ShloMosaic Idealize.ShloMosaic.TcCoe Idealize.ShloMosaic.Tactic
open Cert.Reals
open Cert.Pre_all_finite Cert.Pre_all_finite.Gen

/-- The words of both infinities. -/
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

theorem both_of_and : ∀ p q : BitVec 1, IntOp.andi p q = 1#1 → p = 1#1 ∧ q = 1#1 := by decide

/-- An element tested between both infinities is real. -/
theorem real_of_tests {x : EReal} (h : IntOp.andi (Ideal.cmp .ogt x (Ideal.ofBits .f32 0xFF800000#32)) (Ideal.cmp .olt x (Ideal.ofBits .f32 0x7F800000#32)) = 1#1) :
    IsReal x := by
  obtain ⟨h1, h2⟩ := both_of_and _ _ h
  rw [ofBits_bot] at h1
  rw [ofBits_top] at h2
  refine isReal_of_lt ?_ ?_
  · by_contra hc
    have : Ideal.cmp .ogt x ⊥ = 0#1 := by simp [Ideal.cmp, hc]
    rw [this] at h1; exact absurd h1 (by decide)
  · by_contra hc
    have : Ideal.cmp .olt x ⊤ = 0#1 := by simp [Ideal.cmp, hc]
    rw [this] at h2; exact absurd h2 (by decide)

/-- A whole array tested so, all tests taken together, has only real elements. -/
theorem all_real {s : Shape} {axes : List (Fin s.rank)} {red : s.ReducesTo axes S_} {x : FVec Ideal s .f32} {lo hi : FVec Ideal s .f32} (hlo : ∀ i, lo i = Ideal.ofBits .f32 0xFF800000#32)
    (hhi : ∀ i, hi i = Ideal.ofBits .f32 0x7F800000#32) {j : S_.Idx}
    (h : Host.reduce IntOp.andi (andi (cmpf .ogt x lo) (cmpf .olt x hi)) (constantI S_ 1 1#1) red h_S_ j = 1#1) (i : s.Idx) : IsReal (x i) := by
  have : Subsingleton S_.Idx := ⟨fun a b => funext fun k => k.elim0⟩
  have e : IntOp.andi (Ideal.cmp .ogt (x i) (lo i)) (Ideal.cmp .olt (x i) (hi i)) = 1#1 := Host.reduce_andi_all _ _ _ _ _ h i
  rw [hlo, hhi] at e
  exact real_of_tests e

/-- Under the precondition the rows, both weights, the residual, the gain and the bias are real. -/
theorem real_of_pre (cat : FVec Ideal S32768x1024 .bf16) (w : FVec Ideal S1024x1024 .f32) (x : FVec Ideal S32768x1024 .f32)
    (g b : FVec Ideal S1024 .f32) (rw' : FVec Ideal S1024x32 .f32) (rb : FVec Ideal S32 .f32)
    (h : fn (F := Ideal) cat w x g b rw' rb = fun _ => 1#1) :
    (∀ i, IsReal (cat i)) ∧ (∀ i, IsReal (w i)) ∧ (∀ i, IsReal (x i)) ∧ (∀ i, IsReal (g i)) ∧ (∀ i, IsReal (b i)) ∧ ∀ i, IsReal (rw' i) := by
  have e := congrFun h (fun a => a.elim0)
  unfold fn fn_part1 fn_part2 at e
  obtain ⟨e, h5⟩ := both_of_and _ _ e
  obtain ⟨e, h4⟩ := both_of_and _ _ e
  obtain ⟨e, h3⟩ := both_of_and _ _ e
  obtain ⟨e, h2⟩ := both_of_and _ _ e
  obtain ⟨h0, h1⟩ := both_of_and _ _ e
  refine ⟨all_real (x := extf .f32 cat bitsLt_bf16_f32) ?_ ?_ h0, all_real ?_ ?_ h1, all_real ?_ ?_ h2, all_real ?_ ?_ h3, all_real ?_ ?_ h4,
    all_real ?_ ?_ h5⟩ <;> exact fun _ => rfl

end Cert.OutLnIdeal.OutLn

end
-- ==== Proof.OutLn.Algebraic.lean ====
/-
  The output projection: the kernel's three results are the reference's where the inputs are real, and the reference's frame.
-/
module

public import proofs.«01_k».proof.Defs
public import proofs.«01_k».proof.Proof.OutLn.Array
public import proofs.«01_k».proof.Proof.OutLn.Finite

@[expose] public section

set_option maxRecDepth 16384

noncomputable section

namespace Cert.OutLnIdeal.OutLn

open Idealize.ShloMosaic Idealize.ShloMosaic.TcCoe Idealize.SL.Sem
open Cert.OutLnIdeal.Gen Cert.Reals
open Cert.OutLnReferenceIdeal.OutLn (rows logits)

/-- The reference's frame: it writes no argument and declares no semaphore. -/
theorem frame_reference : Cert.quiescent_OutLnReferenceIdeal := fun m ρ _ =>
  (θ_run Cert.OutLnReferenceIdeal.defs _ _).mono
    (fun r h => ⟨fun c => (h c).2.2.2, sem_eq_zero_of_no_sems (by decide) r.2⟩) (Cert.OutLnReferenceIdeal.Value.run m ρ)

/-- The normed rows of real arguments are real. -/
theorem real_rows {cat : FVec Ideal S32768x1024 .bf16} {w : FVec Ideal S1024x1024 .f32} {x : FVec Ideal S32768x1024 .f32}
    {g b : FVec Ideal S1024 .f32} (hc : ∀ i, IsReal (cat i)) (hw : ∀ i, IsReal (w i)) (hx : ∀ i, IsReal (x i)) (hg : ∀ i, IsReal (g i))
    (hb : ∀ i, IsReal (b i)) (y : S32768x1024.Idx) : IsReal (rows cat w x g b y) :=
  real_normed (real_preNorm (fun _ => hc _) (fun _ _ => hw _) fun _ => hx _) (fun _ => hg _) (fun _ => hb _) _

/-- For all real arguments the kernel's rows, rows in bf16 and logits are the reference's, element by element. -/
theorem algebraic : Cert.algebraic_OutLnIdeal_OutLnReferenceIdeal_pre_all_finite := by
  intro m g m' g' hpre hargs
  refine ⟨fun c => rowsA m c, fun c => truncf .bf16 (rowsA m c) bitsLt_bf16_f32, fun c => logits (rowsA m c) (rwa m c) (rba m c), ?_, ?_⟩
  · refine (θ_run defs _ _).mono (fun r h c => ?_) (Value.run_blocks m g)
    obtain ⟨h0, h1, h2, hk⟩ := h c
    obtain ⟨rc, rw', rx, rg, rb, rr⟩ := real_of_pre (cata m c) (wa m c) (xa m c) (ga m c) (ba m c) (rwa m c) (rba m c) (hpre c)
    exact ⟨h0.trans (x1_array m c), h1.trans (x1b_array m c),
      h2.trans (logits_array m c (fun _ _ => real_rows rc rw' rx rg rb _) fun _ _ => rr _), hk⟩
  · refine (θ_run Cert.OutLnReferenceIdeal.defs _ _).mono (fun r h c => ?_) (Cert.OutLnReferenceIdeal.OutLn.run_rows m' g')
    obtain ⟨e0, e1, e2, e3, e4, e5, e6⟩ := hargs c
    obtain ⟨h0, h1, h2, hk⟩ := h c
    have er : Cert.OutLnReferenceIdeal.OutLn.rows' m' c = rowsA m c := by
      unfold Cert.OutLnReferenceIdeal.OutLn.rows' Cert.OutLnReferenceIdeal.OutLn.cat' Cert.OutLnReferenceIdeal.OutLn.w'
        Cert.OutLnReferenceIdeal.OutLn.x' Cert.OutLnReferenceIdeal.OutLn.g' Cert.OutLnReferenceIdeal.OutLn.b'
      rw [e0, e1, e2, e3, e4]
    rw [er] at h0 h1 h2
    refine ⟨h0, h1, h2.trans ?_, hk⟩
    unfold Cert.OutLnReferenceIdeal.OutLn.rw' Cert.OutLnReferenceIdeal.OutLn.rb'
    rw [e5, e6]

end Cert.OutLnIdeal.OutLn

end
-- ==== Proof.EvenMix.Frame.lean ====
/-
  The pooling and convolution reference's frame.
-/
module

public import proofs.«01_k».proof.Defs
public import proofs.«01_k».proof.Proof.Gen.EvenMixReferenceIdeal.Run
public import Idealize.ShloMosaic.Lib.Quiescent

@[expose] public section

noncomputable section

namespace Cert.EvenMixIdeal.EvenMix

open Idealize.ShloMosaic Idealize.ShloMosaic.TcCoe Idealize.SL.Sem

/-- The reference's frame: it writes no argument and declares no semaphore. -/
theorem frame_reference : Cert.quiescent_EvenMixReferenceIdeal := fun m ρ _ =>
  (θ_run Cert.EvenMixReferenceIdeal.defs _ _).mono
    (fun r h => ⟨fun c => (h c).2, sem_eq_zero_of_no_sems (by decide) r.2⟩) (Cert.EvenMixReferenceIdeal.Value.run m ρ)

end Cert.EvenMixIdeal.EvenMix

end
-- ==== Proof.EvenMix.Shift.lean ====
/-
  Columns of 2048 entries shifted along the column with zeros entering, and the window sums that doubling steps of such shifts make.
-/
module

public import Idealize.ShloMosaic.Lib.Pointwise

@[expose] public section

noncomputable section

namespace Cert.EvenMix

open Idealize.ShloMosaic

/-- A column continued by zeros on both sides. -/
def ext (f : Fin 2048 → EReal) (z : ℤ) : EReal := ∑ s : Fin 2048, if (s.val : ℤ) = z then f s else 0

/-- Inside it is the column, -/
theorem ext_at (f : Fin 2048 → EReal) (s : Fin 2048) : ext f s.val = f s := by
  unfold ext
  rw [Finset.sum_eq_single s]
  · exact if_pos rfl
  · exact fun b _ hb => if_neg fun h => hb (Fin.ext (by exact_mod_cast h))
  · exact fun h => absurd (Finset.mem_univ _) h

/-- outside it is 0. -/
theorem ext_outside (f : Fin 2048 → EReal) (z : ℤ) (h : z < 0 ∨ 2048 ≤ z) : ext f z = 0 :=
  Finset.sum_eq_zero fun s _ => if_neg fun e => by have := s.isLt; omega

/-- The rows moved by `k` towards the end: the rotation by `k`, with zeros in the rows that came round. -/
def down (k : ℕ) (f : Fin 2048 → EReal) (t : Fin 2048) : EReal :=
  Scalar.select (IntOp.cmpi .sge (BitVec.ofNat 32 t.val) (BitVec.ofNat 32 k)) (f ⟨(t.val + 2048 - k) % 2048, Nat.mod_lt _ (by decide)⟩) 0

/-- The rows moved by `k` towards the start: the rotation by `2048 - k`, with zeros in the rows that came round. -/
def up (k : ℕ) (f : Fin 2048 → EReal) (t : Fin 2048) : EReal :=
  Scalar.select (IntOp.cmpi .slt (BitVec.ofNat 32 t.val) (BitVec.ofNat 32 (2048 - k)))
    (f ⟨(t.val + 2048 - (2048 - k)) % 2048, Nat.mod_lt _ (by decide)⟩) 0

/-- A small number as a signed word. -/
theorem toInt_small (n : ℕ) (h : n < 4096) : (BitVec.ofNat 32 n).toInt = n := by
  rw [BitVec.toInt_eq_toNat_bmod, BitVec.toNat_ofNat, Int.bmod_def]
  split_ifs <;> omega

/-- A shift down reads the continued column earlier, -/
theorem down_eq (k : ℕ) (hk : k ≤ 2048) (f : Fin 2048 → EReal) (t : Fin 2048) : down k f t = ext f ((t.val : ℤ) - k) := by
  have ht := t.isLt
  by_cases h : k ≤ t.val
  · have e : (BitVec.ofNat 32 k).sle (BitVec.ofNat 32 t.val) = true := by
      rw [BitVec.sle_eq_decide, toInt_small _ (by omega), toInt_small _ (by omega)]; simpa using h
    have ei : (t.val : ℤ) - k = ((⟨(t.val + 2048 - k) % 2048, Nat.mod_lt _ (by decide)⟩ : Fin 2048).val : ℤ) := by
      show _ = (((t.val + 2048 - k) % 2048 : ℕ) : ℤ)
      omega
    rw [ei, ext_at]
    simp [down, Scalar.select, IntOp.cmpi, e]
  · have e : (BitVec.ofNat 32 k).sle (BitVec.ofNat 32 t.val) = false := by
      rw [BitVec.sle_eq_decide, toInt_small _ (by omega), toInt_small _ (by omega)]; simpa using h
    rw [ext_outside _ _ (by omega)]
    simp [down, Scalar.select, IntOp.cmpi, e]

/-- a shift up later. -/
theorem up_eq (k : ℕ) (hk : k ≤ 2048) (f : Fin 2048 → EReal) (t : Fin 2048) : up k f t = ext f ((t.val : ℤ) + k) := by
  have ht := t.isLt
  by_cases h : t.val < 2048 - k
  · have e : (BitVec.ofNat 32 t.val).slt (BitVec.ofNat 32 (2048 - k)) = true := by
      rw [BitVec.slt_eq_decide, toInt_small _ (by omega), toInt_small _ (by omega)]; simp; omega
    have ei : (t.val : ℤ) + k = ((⟨(t.val + 2048 - (2048 - k)) % 2048, Nat.mod_lt _ (by decide)⟩ : Fin 2048).val : ℤ) := by
      show _ = (((t.val + 2048 - (2048 - k)) % 2048 : ℕ) : ℤ)
      omega
    rw [ei, ext_at]
    simp [up, Scalar.select, IntOp.cmpi, e]
  · have e : (BitVec.ofNat 32 t.val).slt (BitVec.ofNat 32 (2048 - k)) = false := by
      rw [BitVec.slt_eq_decide, toInt_small _ (by omega), toInt_small _ (by omega)]; simp; omega
    rw [ext_outside _ _ (by omega)]
    simp [up, Scalar.select, IntOp.cmpi, e]

/-- The sum of the `n` rows that end with row `t`. -/
def back (n : ℕ) (f : Fin 2048 → EReal) (t : Fin 2048) : EReal := ∑ i ∈ Finset.range n, ext f ((t.val : ℤ) - i)
/-- The sum of `n` rows from row `t` on. -/
def fwd (n : ℕ) (f : Fin 2048 → EReal) (t : Fin 2048) : EReal := ∑ i ∈ Finset.range n, ext f ((t.val : ℤ) + i)

/-- The sums of earlier rows, continued by zeros, are those of the continued column up to the end, -/
theorem ext_back (n : ℕ) (hn : 0 < n) (f : Fin 2048 → EReal) (z : ℤ) (hz : z < 2048) :
    ext (back n f) z = ∑ i ∈ Finset.range n, ext f (z - i) := by
  by_cases h : 0 ≤ z
  · obtain ⟨s, rfl⟩ : ∃ s : Fin 2048, z = s.val := ⟨⟨z.toNat, by omega⟩, by show z = ((z.toNat : ℕ) : ℤ); omega⟩
    exact ext_at _ _
  · rw [ext_outside _ _ (by omega)]
    exact (Finset.sum_eq_zero fun i _ => ext_outside _ _ (by omega)).symm

/-- and those of later rows from the start on. -/
theorem ext_fwd (n : ℕ) (hn : 0 < n) (f : Fin 2048 → EReal) (z : ℤ) (hz : 0 ≤ z) :
    ext (fwd n f) z = ∑ i ∈ Finset.range n, ext f (z + i) := by
  by_cases h : z < 2048
  · obtain ⟨s, rfl⟩ : ∃ s : Fin 2048, z = s.val := ⟨⟨z.toNat, by omega⟩, by show z = ((z.toNat : ℕ) : ℤ); omega⟩
    exact ext_at _ _
  · rw [ext_outside _ _ (by omega)]
    exact (Finset.sum_eq_zero fun i _ => ext_outside _ _ (by omega)).symm

/-- One row is the column itself, among the earlier -/
theorem back_one (f : Fin 2048 → EReal) : back 1 f = f := funext fun t => by
  simp [back, ext_at]
/-- and the later. -/
theorem fwd_one (f : Fin 2048 → EReal) : fwd 1 f = f := funext fun t => by
  simp [fwd, ext_at]

/-- One doubling step. -/
theorem back_double (n : ℕ) (hn : 0 < n) (hn' : n ≤ 2048) (f : Fin 2048 → EReal) (t : Fin 2048) :
    back n f t + down n (back n f) t = back (n + n) f t := by
  rw [down_eq _ hn', ext_back _ hn _ _ (by have := t.isLt; omega)]
  unfold back
  rw [Finset.sum_range_add]
  exact congrArg _ (Finset.sum_congr rfl fun i _ => congrArg _ (by push_cast; ring))
/-- The same for later rows. -/
theorem fwd_double (n : ℕ) (hn : 0 < n) (hn' : n ≤ 2048) (f : Fin 2048 → EReal) (t : Fin 2048) :
    fwd n f t + up n (fwd n f) t = fwd (n + n) f t := by
  rw [up_eq _ hn', ext_fwd _ hn _ _ (by omega)]
  unfold fwd
  rw [Finset.sum_range_add]
  exact congrArg _ (Finset.sum_congr rfl fun i _ => congrArg _ (by push_cast; ring))

/-- The sum of the rows from `h` before row `t` up to `h` after it, the last excluded. -/
def window (h : ℕ) (f : Fin 2048 → EReal) (t : Fin 2048) : EReal :=
  ∑ s : Fin 2048, if (t.val : ℤ) - h ≤ s.val ∧ (s.val : ℤ) < t.val + h then f s else 0

/-- A window one wider on both sides has two rows more. -/
theorem window_succ (h : ℕ) (f : Fin 2048 → EReal) (t : Fin 2048) :
    window (h + 1) f t = window h f t + (ext f ((t.val : ℤ) - 1 - h) + ext f ((t.val : ℤ) + h)) := by
  unfold window ext
  rw [← Finset.sum_add_distrib, ← Finset.sum_add_distrib]
  refine Finset.sum_congr rfl fun s _ => ?_
  push_cast
  split_ifs <;> first | omega | simp

/-- The rows before row `t` and the rows from it on make its window. -/
theorem window_eq (h : ℕ) (f : Fin 2048 → EReal) (t : Fin 2048) :
    (∑ i ∈ Finset.range h, ext f ((t.val : ℤ) - 1 - i)) + fwd h f t = window h f t := by
  induction h with
  | zero => simp [fwd, window]; exact (Finset.sum_eq_zero fun s _ => if_neg fun e => by omega).symm
  | succ n ih =>
    rw [window_succ, ← ih]
    unfold fwd
    rw [Finset.sum_range_succ, Finset.sum_range_succ]
    ac_rfl

/-- The `h` rows before row `t` and the `h` from it on make the window. -/
theorem down_back (h : ℕ) (hh : 0 < h) (f : Fin 2048 → EReal) (t : Fin 2048) :
    down 1 (back h f) t + fwd h f t = window h f t := by
  rw [down_eq _ (by decide), ext_back _ hh _ _ (by have := t.isLt; omega)]
  exact window_eq h f t

end Cert.EvenMix

end
-- ==== Proof.EvenMix.Mix.lean ====
/-
  What the even layer's mixer makes of one lane: the windows' sums by doubling steps, the pooled rows, their mix, and the gated convolution.
-/
module

public import proofs.«01_k».proof.Proof.EvenMix.Shift

@[expose] public section

noncomputable section

namespace Cert.EvenMix

open Idealize.ShloMosaic

/-- The windows of half width 1, 2, 4 and 8 from the shifts by which they are summed. -/
theorem window_one (f : Fin 2048 → EReal) (t : Fin 2048) : down 1 f t + f t = window 1 f t := by
  have h := down_back 1 (by decide) f t
  rwa [back_one, fwd_one] at h

/-- One doubling step of a column towards the end: each row with the row `k` earlier, -/
def addDown (k : ℕ) (f : Fin 2048 → EReal) (t : Fin 2048) : EReal := f t + down k f t
/-- and one towards the start: each row with the row `k` later. -/
def addUp (k : ℕ) (f : Fin 2048 → EReal) (t : Fin 2048) : EReal := f t + up k f t

/-- A step down doubles the rows before, -/
theorem addDown_back (n : ℕ) (hn : 0 < n) (hn' : n ≤ 2048) (f : Fin 2048 → EReal) : addDown n (back n f) = back (n + n) f :=
  funext fun t => back_double n hn hn' f t
/-- a step up the rows after. -/
theorem addUp_fwd (n : ℕ) (hn : 0 < n) (hn' : n ≤ 2048) (f : Fin 2048 → EReal) : addUp n (fwd n f) = fwd (n + n) f :=
  funext fun t => fwd_double n hn hn' f t

/-- One step down from a single row, -/
theorem addDown_one (f : Fin 2048 → EReal) : addDown 1 f = back 2 f := by
  have h := addDown_back 1 (by decide) (by decide) f
  rwa [back_one] at h
/-- and one step up. -/
theorem addUp_one (f : Fin 2048 → EReal) : addUp 1 f = fwd 2 f := by
  have h := addUp_fwd 1 (by decide) (by decide) f
  rwa [fwd_one] at h

/-- The window's sum after one step each way, -/
theorem window_two (f : Fin 2048 → EReal) (t : Fin 2048) : down 1 (addDown 1 f) t + addUp 1 f t = window 2 f t := by
  rw [addDown_one, addUp_one]
  exact down_back 2 (by decide) f t
/-- after two -/
theorem window_four (f : Fin 2048 → EReal) (t : Fin 2048) :
    down 1 (addDown 2 (addDown 1 f)) t + addUp 2 (addUp 1 f) t = window 4 f t := by
  rw [addDown_one, addUp_one, addDown_back 2 (by decide) (by decide), addUp_fwd 2 (by decide) (by decide)]
  exact down_back 4 (by decide) f t
/-- and after three. -/
theorem window_eight (f : Fin 2048 → EReal) (t : Fin 2048) :
    down 1 (addDown 4 (addDown 2 (addDown 1 f))) t + addUp 4 (addUp 2 (addUp 1 f)) t = window 8 f t := by
  rw [addDown_one, addUp_one, addDown_back 2 (by decide) (by decide), addUp_fwd 2 (by decide) (by decide),
    addDown_back 4 (by decide) (by decide), addUp_fwd 4 (by decide) (by decide)]
  exact down_back 8 (by decide) f t

/-- How many rows the window of half width `h` about row `t` has. -/
def rowsIn (h : ℕ) (t : Fin 2048) : EReal :=
  FloatOps.sitofp (F := Ideal) .f32 (IntOp.subi (IntOp.minsi (IntOp.addi (BitVec.ofNat 32 t.val) (BitVec.ofNat 32 h)) 2048#32)
    (IntOp.maxsi (IntOp.subi (BitVec.ofNat 32 t.val) (BitVec.ofNat 32 h)) 0#32))

/-- The column's window, its mean, less the column itself. -/
def pooled (h : ℕ) (f : Fin 2048 → EReal) (t : Fin 2048) : EReal := Ideal.div (window h f t) (rowsIn h t) - f t

/-- One lane of the mix: the pooled columns of a group times a column of the group's weights. -/
def mix (h : ℕ) (u : Fin 128 → Fin 2048 → EReal) (p : Fin 128 → EReal) (t : Fin 2048) : EReal := ∑ c : Fin 128, pooled h (u c) t * p c

/-- One lane of the gated convolution of width three. -/
def conv (b f : Fin 2048 → EReal) (w0 w1 w2 : EReal) (t : Fin 2048) : EReal :=
  b t * (ext f ((t.val : ℤ) - 1) * w0 + f t * w1 + ext f ((t.val : ℤ) + 1) * w2)

/-- A factor common to all rows comes out of a shift down -/
theorem down_mul (k : ℕ) (f : Fin 2048 → EReal) (w : EReal) (t : Fin 2048) : down k (fun s => f s * w) t = down k f t * w := by
  unfold down Scalar.select
  split <;> simp
/-- and out of a shift up. -/
theorem up_mul (k : ℕ) (f : Fin 2048 → EReal) (w : EReal) (t : Fin 2048) : up k (fun s => f s * w) t = up k f t * w := by
  unfold up Scalar.select
  split <;> simp

/-- The convolution from shifts. -/
theorem conv_eq (b f : Fin 2048 → EReal) (w0 w1 w2 : EReal) (t : Fin 2048) :
    b t * (down 1 (fun s => f s * w0) t + f t * w1 + up 1 (fun s => f s * w2) t) = conv b f w0 w1 w2 t := by
  rw [down_mul, up_mul, down_eq _ (by decide), up_eq _ (by decide)]
  rfl

/-- A column of the product of rows with a column of weights. -/
def col (x : Fin 2048 → Fin 1024 → EReal) (w : Fin 1024 → EReal) (s : Fin 2048) : EReal := ∑ k : Fin 1024, x s k * w k

end Cert.EvenMix

end
-- ==== Proof.EvenMix.Payload.lean ====
/-
  What the even mixer's kernel stores from its block of rows, read at one row and one column of each of the six pieces.
-/
module

public import proofs.«01_k».proof.Proof.Gen.EvenMixIdeal.Skeleton
public import proofs.«01_k».proof.Proof.EvenMix.Mix

@[expose] public section

set_option maxRecDepth 16384

noncomputable section

namespace Cert.EvenMixIdeal.EvenMix

open Idealize.ShloMosaic Idealize.ShloMosaic.TcCoe Idealize.ShloMosaic.Tactic Idealize.ShloMosaic.Pointwise
open Cert.EvenMixIdeal.Gen Cert.EvenMix

variable (x : FVec Ideal S2048x1024 .bf16) (w : FVec Ideal S1024x128 .bf16) (p : FVec Ideal S1x128x128 .bf16) (q : FVec Ideal S1x128 .f32)

/-- The rows' numbers, as the kernel has them for the pooled columns. -/
abbrev rowNo : IVec S2048x128 32 := iota .tc S2048x128 32 [0] iota_S2048x128_d0_w32
/-- The same for the convolution's width. -/
abbrev rowNoC : IVec S2048x256 32 := iota .tc S2048x256 32 [0] iota_S2048x256_d0_w32

/-- One lane of a group: the rows times one column of the weights. -/
abbrev lane (c : Fin 128) : Fin 2048 → EReal := col (fun s k => x (ix2 s k)) fun k => w (ix2 k c)

/-- What a piece of the group of half width `h` holds. -/
abbrev pool (h : ℕ) (t : Fin 2048) (j : Fin 128) : EReal := mix h (lane x w) (fun c => p (ix3 0 c j)) t * q (ix2 0 j)

/-- The group of half width 1, -/
theorem piece_one (z : Fin 1) (t : Fin 2048) (j : Fin 128) : k0_pay5 (F := Ideal) (k0_pay3 x w p) (k0_pay4 q) (ix3 z t j) = pool x w p q 1 t j := by
  unfold pool mix pooled
  simp only [← window_one]
  pointwise [k0_pay5, k0_pay4, k0_pay3, lane, col, down, rowsIn]

/-- and of half width 2. -/
theorem piece_two (z : Fin 1) (t : Fin 2048) (j : Fin 128) : k0_pay7 (F := Ideal) (k0_pay6 x rowNo w) p q (ix3 z t j) = pool x w p q 2 t j := by
  unfold pool mix pooled
  simp only [← window_two]
  pointwise [k0_pay7, k0_pay6, lane, col, down, up, addDown, addUp, rowsIn]

/-- The steps of the group of half width 4: the first upward step. -/
theorem step_up (s : Fin 2048) (c : Fin 128) : k0_pay9 (F := Ideal) x rowNo w (ix2 s c) = addUp 1 (lane x w c) s := by
  pointwise [k0_pay9, k0_pay8, lane, col, up, addUp]
/-- The two downward steps of this group. -/
theorem steps_down (s : Fin 2048) (c : Fin 128) :
    k0_pay10 (F := Ideal) x rowNo w (ix2 s c) = addDown 2 (addDown 1 (lane x w c)) s := by
  pointwise [k0_pay10, k0_pay8, lane, col, down, addDown]
/-- The columns it begins from. -/
theorem lane_four (s : Fin 2048) (c : Fin 128) : k0_pay8 (F := Ideal) x w (ix2 s c) = lane x w c s := by
  pointwise [k0_pay8, lane, col]

/-- and what the kernel makes of them. -/
theorem last_four (u a b : FVec Ideal S2048x128 .f32) (z : Fin 1) (t : Fin 2048) (j : Fin 128) :
    k0_pay13 (F := Ideal) rowNo u a b (k0_pay11 rowNo) (dynamicRotate 0 2046#32 none a rotates_S2048x128_d0)
      (Scalar.ofBits .f32 0x00000000#32) p q (ix3 z t j)
      = (∑ c : Fin 128, (Ideal.div (down 1 (fun s => b (ix2 s c)) t + addUp 2 (fun s => a (ix2 s c)) t) (rowsIn 4 t) - u (ix2 t c))
          * p (ix3 0 c j)) * q (ix2 0 j) := by
  pointwise [k0_pay13, k0_pay11, down, up, addUp, rowsIn]

/-- The group of half width 4, -/
theorem piece_four (z : Fin 1) (t : Fin 2048) (j : Fin 128) :
    k0_pay13 (F := Ideal) rowNo (k0_pay8 x w) (k0_pay9 x rowNo w) (k0_pay10 x rowNo w) (k0_pay11 rowNo) (k0_pay12 x rowNo w)
      (Scalar.ofBits .f32 0x00000000#32) p q (ix3 z t j) = pool x w p q 4 t j := by
  refine (last_four p q (k0_pay8 x w) (k0_pay9 x rowNo w) (k0_pay10 x rowNo w) z t j).trans ?_
  simp only [step_up, steps_down, lane_four]
  unfold pool mix pooled
  simp only [← window_four]

/-- The kernel's doubling steps on a whole group: towards the end, -/
def stepDown (k : BitVec 32) (v : FVec Ideal S2048x128 .f32) : FVec Ideal S2048x128 .f32 :=
  addf v (select (cmpi .sge rowNo (broadcast S2048x128 k)) (dynamicRotate 0 k none v rotates_S2048x128_d0)
    (broadcast S2048x128 (Scalar.ofBits (F := Ideal) .f32 0x00000000#32)))
/-- towards the start, -/
def stepUp (k : BitVec 32) (v : FVec Ideal S2048x128 .f32) : FVec Ideal S2048x128 .f32 :=
  addf v (select (cmpi .slt rowNo (broadcast S2048x128 k)) (dynamicRotate 0 k none v rotates_S2048x128_d0)
    (broadcast S2048x128 (Scalar.ofBits (F := Ideal) .f32 0x00000000#32)))
/-- and the two sums put together. -/
def joined (b f : FVec Ideal S2048x128 .f32) : FVec Ideal S2048x128 .f32 :=
  addf (select (cmpi .sge rowNo (broadcast S2048x128 1#32)) (dynamicRotate 0 1#32 none b rotates_S2048x128_d0)
    (broadcast S2048x128 (Scalar.ofBits (F := Ideal) .f32 0x00000000#32))) f

section

variable (v : FVec Ideal S2048x128 .f32) (t : Fin 2048) (c : Fin 128)

/-- A step down by 1, -/
theorem stepDown_one : stepDown 1#32 v (ix2 t c) = addDown 1 (fun s => v (ix2 s c)) t := by pointwise [stepDown, addDown, down]
/-- by 2 -/
theorem stepDown_two : stepDown 2#32 v (ix2 t c) = addDown 2 (fun s => v (ix2 s c)) t := by pointwise [stepDown, addDown, down]
/-- and by 4. -/
theorem stepDown_four : stepDown 4#32 v (ix2 t c) = addDown 4 (fun s => v (ix2 s c)) t := by pointwise [stepDown, addDown, down]
/-- A step up by 1, -/
theorem stepUp_one : stepUp 2047#32 v (ix2 t c) = addUp 1 (fun s => v (ix2 s c)) t := by pointwise [stepUp, addUp, up]
/-- by 2 -/
theorem stepUp_two : stepUp 2046#32 v (ix2 t c) = addUp 2 (fun s => v (ix2 s c)) t := by pointwise [stepUp, addUp, up]
/-- and by 4. -/
theorem stepUp_four : stepUp 2044#32 v (ix2 t c) = addUp 4 (fun s => v (ix2 s c)) t := by pointwise [stepUp, addUp, up]
/-- The two halves of a window joined, at one entry. -/
theorem joined_apply (b f : FVec Ideal S2048x128 .f32) : joined b f (ix2 t c) = down 1 (fun s => b (ix2 s c)) t + f (ix2 t c) := by
  pointwise [joined, down]

/-- The window of half width 8 by these steps, -/
theorem window_steps (u : FVec Ideal S2048x128 .f32) :
    k0_pay16 (F := Ideal) rowNo u (k0_pay15 rowNo) 1#32 (ix2 t c) = window 8 (fun s => u (ix2 s c)) t := by
  have e : k0_pay16 (F := Ideal) rowNo u (k0_pay15 rowNo) 1#32
      = joined (stepDown 4#32 (stepDown 2#32 (stepDown 1#32 u))) (stepUp 2044#32 (stepUp 2046#32 (stepUp 2047#32 u))) := rfl
  rw [e, joined_apply, ← window_eight]
  simp only [stepDown_one, stepDown_two, stepDown_four, stepUp_one, stepUp_two, stepUp_four]

end

/-- The columns the widest window begins from. -/
theorem lane_eight (s : Fin 2048) (c : Fin 128) : k0_pay14 (F := Ideal) x w (ix2 s c) = lane x w c s := by
  pointwise [k0_pay14, lane, col]
/-- The pooled, mixed and scaled entry, from the columns and their window. -/
theorem last_eight (u win : FVec Ideal S2048x128 .f32) (z : Fin 1) (t : Fin 2048) (j : Fin 128) :
    k0_pay17 (F := Ideal) rowNo u win 8#32 p q (ix3 z t j)
      = (∑ c : Fin 128, (Ideal.div (win (ix2 t c)) (rowsIn 8 t) - u (ix2 t c)) * p (ix3 0 c j)) * q (ix2 0 j) := by
  pointwise [k0_pay17, rowsIn]

/-- and the group of half width 8. -/
theorem piece_eight (z : Fin 1) (t : Fin 2048) (j : Fin 128) :
    k0_pay17 (F := Ideal) rowNo (k0_pay14 x w) (k0_pay16 rowNo (k0_pay14 x w) (k0_pay15 rowNo) 1#32) 8#32 p q (ix3 z t j)
      = pool x w p q 8 t j := by
  refine (last_eight p q (k0_pay14 x w) _ z t j).trans ?_
  simp only [window_steps, lane_eight]
  unfold pool mix pooled
  rfl

variable (wb wc wv : FVec Ideal S1024x256 .bf16) (c0 c1 c2 : FVec Ideal S1x256 .f32)

/-- One lane of the convolved columns: the rows times one column of the weights. -/
abbrev laneC (v : FVec Ideal S1024x256 .bf16) (j : Fin 256) : Fin 2048 → EReal := col (fun s k => x (ix2 s k)) fun k => v (ix2 k j)

/-- What a piece of the convolved columns holds. -/
abbrev gated (t : Fin 2048) (j : Fin 256) : EReal :=
  conv (laneC x wb j) (fun s => laneC x wc j s * laneC x wv j s) (c0 (ix2 0 j)) (c1 (ix2 0 j)) (c2 (ix2 0 j)) t

/-- The first and the second half of the convolved columns. -/
theorem piece_left (z : Fin 1) (t : Fin 2048) (j : Fin 256) :
    k0_pay21 (F := Ideal) rowNoC (k0_pay18 x wb) (k0_pay19 x wc wv) k0_pay20 c0 c1 c2 (ix3 z t j) = gated x wb wc wv c0 c1 c2 t j := by
  unfold gated
  rw [← conv_eq]
  pointwise [k0_pay21, k0_pay18, k0_pay19, k0_pay20, laneC, col, down, up]
/-- An entry of the second piece of the convolution. -/
theorem piece_right (z : Fin 1) (t : Fin 2048) (j : Fin 256) :
    k0_pay1 (F := Ideal) rowNoC (k0_pay22 x wb) (k0_pay23 x wc wv) k0_pay24 c0 c1 c2 (ix3 z t j) = gated x wb wc wv c0 c1 c2 t j := by
  unfold gated
  rw [← conv_eq]
  pointwise [k0_pay1, k0_pay22, k0_pay23, k0_pay24, laneC, col, down, up]

/-- The rows as the kernel keeps them: the block without its first axis. -/
theorem rows_apply (b : FVec Ideal S1x2048x1024 .f32) (s : Fin 2048) (k : Fin 1024) :
    (k0_pay2 b : FVec Ideal S2048x1024 .bf16) (ix2 s k) = b (ix3 0 s k) := by
  pointwise [k0_pay2]

end Cert.EvenMixIdeal.EvenMix

end
-- ==== Proof.EvenMix.Layer.lean ====
/-
  The even mixer's result at one row and one column, from the rows and the weights: pooled groups in the first half, gated convolution in the second.
-/
module

public import proofs.«01_k».proof.Proof.EvenMix.Mix

@[expose] public section

noncomputable section

namespace Cert.EvenMix

open Idealize.ShloMosaic

variable (x : Fin 2048 → Fin 1024 → EReal) (w : Fin 1024 → Fin 2048 → EReal) (p : Fin 4 → Fin 128 → Fin 128 → EReal) (q : Fin 512 → EReal)
  (cw : Fin 3 → Fin 512 → EReal) (t : Fin 2048)

/-- Column `n` of the rows times the weights. -/
def proj (n : ℕ) (h : n < 2048) : Fin 2048 → EReal := col x fun k => w k ⟨n, h⟩

/-- Column `j` of group `g`, whose window has the half width `2 ^ g`. -/
def poolAt (g : Fin 4) (j : Fin 128) : EReal :=
  mix (2 ^ g.val) (fun c => proj x w (128 * g.val + c.val) (by omega)) (fun c => p g c j) t * q ⟨128 * g.val + j.val, by omega⟩

/-- Column `j` of the gated convolution. -/
def gatedAt (j : Fin 512) : EReal :=
  conv (proj x w (512 + j.val) (by omega)) (fun s => proj x w (1024 + j.val) (by omega) s * proj x w (1536 + j.val) (by omega) s)
    (cw 0 j) (cw 1 j) (cw 2 j) t

/-- One row of the result. -/
def layer (n : Fin 1024) : EReal :=
  if h : n.val < 512 then poolAt x w p q t ⟨n.val / 128, by omega⟩ ⟨n.val % 128, by omega⟩
  else gatedAt x w cw t ⟨n.val - 512, by omega⟩

/-- Its first half is pooled, -/
theorem layer_pool (g : Fin 4) (j : Fin 128) (n : Fin 1024) (hn : n.val = 128 * g.val + j.val) :
    layer x w p q cw t n = poolAt x w p q t g j := by
  have eg : (⟨n.val / 128, by omega⟩ : Fin 4) = g := Fin.ext (by show n.val / 128 = g.val; omega)
  have ej : (⟨n.val % 128, by omega⟩ : Fin 128) = j := Fin.ext (by show n.val % 128 = j.val; omega)
  unfold layer
  rw [dif_pos (by omega), eg, ej]

/-- the second convolved. -/
theorem layer_gated (j : Fin 512) (n : Fin 1024) (hn : n.val = 512 + j.val) : layer x w p q cw t n = gatedAt x w cw t j := by
  have ej : (⟨n.val - 512, by omega⟩ : Fin 512) = j := Fin.ext (by show n.val - 512 = j.val; omega)
  unfold layer
  rw [dif_neg (by omega), ej]

end Cert.EvenMix

end
-- ==== Proof.EvenMix.Stored.lean ====
/-
  What one grid point of the even mixer leaves in its block of the result: six pieces of columns, which together are the block.
-/
module

public import proofs.«01_k».proof.Proof.Gen.EvenMixIdeal.Value
public import proofs.«01_k».proof.Proof.EvenMix.Payload
public import proofs.«01_k».proof.Proof.EvenMix.Layer

@[expose] public section

set_option maxRecDepth 16384

noncomputable section

namespace Cert.EvenMixIdeal.EvenMix

open Idealize.ShloMosaic Idealize.ShloMosaic.TcCoe Idealize.ShloMosaic.Tactic Idealize.ShloMosaic.Pointwise
open Cert.EvenMixIdeal.Gen Cert.EvenMix

/-- A piece of columns, seen at an index outside its columns, -/
theorem skip (o n : ℕ) (inb : ∀ a, (![0, 0, o] : Fin 3 → ℕ) a + (![1, 2048, n] : Fin 3 → ℕ) a ≤ S1x2048x1024.size a)
    (v : (Rect.unit (s := S1x2048x1024) ![0, 0, o] ![1, 2048, n] inb).shape.Idx → Elt Ideal .bf16)
    (L : List (View.Piece (Elt Ideal) S1x2048x1024 .bf16)) (z : Fin 1) (s : Fin 2048) (i : Fin 1024) (h : i.val < o ∨ o + n ≤ i.val) :
    View.canon (⟨Rect.unit (s := S1x2048x1024) ![0, 0, o] ![1, 2048, n] inb, v⟩ :: L) (ix3 z s i) = View.canon L (ix3 z s i) := by
  refine View.canon_cons_of_not_mem _ _ fun hm => ?_
  have hm2 : o ≤ i.val ∧ i.val < o + n := (Rect.mem_set_unit (s := S1x2048x1024) (inb := inb)).mp hm (2 : Fin 3)
  omega

/-- and at an index within them. -/
theorem take (o n : ℕ) (inb : ∀ a, (![0, 0, o] : Fin 3 → ℕ) a + (![1, 2048, n] : Fin 3 → ℕ) a ≤ S1x2048x1024.size a)
    (v : (Rect.unit (s := S1x2048x1024) ![0, 0, o] ![1, 2048, n] inb).shape.Idx → Elt Ideal .bf16)
    (L : List (View.Piece (Elt Ideal) S1x2048x1024 .bf16)) (z : Fin 1) (s : Fin 2048) (i : Fin 1024) (j : Fin n) (h : i.val = o + j.val) :
    View.canon (⟨Rect.unit (s := S1x2048x1024) ![0, 0, o] ![1, 2048, n] inb, v⟩ :: L) (ix3 z s i) = v (ix3 z s j) := by
  have e : (ix3 z s i : S1x2048x1024.Idx) = (Rect.unit (s := S1x2048x1024) ![0, 0, o] ![1, 2048, n] inb).emb (ix3 z s j) := by
    refine funext fun a => Fin.ext ?_
    rw [Rect.emb_apply]
    match a with
    | 0 => show z.val = 0 + 1 * z.val; omega
    | 1 => show s.val = 0 + 1 * s.val; omega
    | 2 => show i.val = o + 1 * j.val; omega
  rw [e]
  exact View.canon_cons_emb _ _ _ _

/-- A load of columns of the input weights, -/
theorem load_w (a : Memref sig .tc .vmem S1024x2048 .bf16) (ha : a.IsWhole) (d : FVec Ideal S1024x2048 .bf16) (o n : ℕ)
    (inb : ∀ a, (![0, o] : Fin 2 → ℕ) a + (![1024, n] : Fin 2 → ℕ) a ≤ S1024x2048.size a) (k : Fin 1024) (j : Fin n) (i : Fin 2048)
    (h : i.val = o + j.val) :
    View.readAt (Elt Ideal) a.view (Rect.unit (s := S1024x2048) ![0, o] ![1024, n] inb).toLoadRect (ha.unread d) (ix2 k j) = d (ix2 k i) := by
  rw [View.readAt_eq_ld, Memref.IsWhole.read_unread]
  have e : i = ⟨o + j.val, h ▸ i.isLt⟩ := Fin.ext h
  rw [e]
  pointwise

/-- of a group's weights, -/
theorem load_p (a : Memref sig .tc .vmem S4x128x128 .bf16) (ha : a.IsWhole) (d : FVec Ideal S4x128x128 .bf16) (o : ℕ)
    (inb : ∀ a, (![o, 0, 0] : Fin 3 → ℕ) a + (![1, 128, 128] : Fin 3 → ℕ) a ≤ S4x128x128.size a) (c j : Fin 128) (i : Fin 4) (h : i.val = o) :
    View.readAt (Elt Ideal) a.view (Rect.unit (s := S4x128x128) ![o, 0, 0] ![1, 128, 128] inb).toLoadRect (ha.unread d) (ix3 0 c j)
      = d (ix3 i c j) := by
  rw [View.readAt_eq_ld, Memref.IsWhole.read_unread]
  subst h
  pointwise

/-- of a group's scales, -/
theorem load_q (a : Memref sig .tc .vmem S1x512 .f32) (ha : a.IsWhole) (d : FVec Ideal S1x512 .f32) (o : ℕ)
    (inb : ∀ a, (![0, o] : Fin 2 → ℕ) a + (![1, 128] : Fin 2 → ℕ) a ≤ S1x512.size a) (j : Fin 128) (i : Fin 512) (h : i.val = o + j.val) :
    View.readAt (Elt Ideal) a.view (Rect.unit (s := S1x512) ![0, o] ![1, 128] inb).toLoadRect (ha.unread d) (ix2 0 j) = d (ix2 0 i) := by
  rw [View.readAt_eq_ld, Memref.IsWhole.read_unread]
  have e : i = ⟨o + j.val, h ▸ i.isLt⟩ := Fin.ext h
  rw [e]
  pointwise

/-- and of half a row of the convolution's weights. -/
theorem load_c (a : Memref sig .tc .vmem S3x512 .f32) (ha : a.IsWhole) (d : FVec Ideal S3x512 .f32) (r o : ℕ)
    (inb : ∀ a, (![r, o] : Fin 2 → ℕ) a + (![1, 256] : Fin 2 → ℕ) a ≤ S3x512.size a) (j : Fin 256) (r' : Fin 3) (i : Fin 512) (hr : r'.val = r)
    (h : i.val = o + j.val) :
    View.readAt (Elt Ideal) a.view (Rect.unit (s := S3x512) ![r, o] ![1, 256] inb).toLoadRect (ha.unread d) (ix2 0 j) = d (ix2 r' i) := by
  rw [View.readAt_eq_ld, Memref.IsWhole.read_unread]
  have e : i = ⟨o + j.val, h ▸ i.isLt⟩ := Fin.ext h
  rw [e]
  subst hr
  pointwise

/-- The offsets of a whole block in two dimensions. -/
theorem offsets_two : (![0, 0] : Fin 2 → ℕ) = fun _ => 0 := by decide
/-- The same in three dimensions. -/
theorem offsets_three : (![0, 0, 0] : Fin 3 → ℕ) = fun _ => 0 := by decide

variable (c : Dev nD) (a1 : Memref sig .tc .vmem S1x2048x1024 .f32) (h1 : a1.IsWhole) (a7 : Memref sig .tc .vmem S2048x1024 .bf16)
  (x : FVec Ideal S1x2048x1024 .f32)

/-- A whole block has every index. -/
theorem mem_whole (y : S2048x1024.Idx) :
    y ∈ (Rect.unit (s := S2048x1024) ![0, 0] S2048x1024.size inb_S2048x1024_S2048x1024_0_0).set :=
  Rect.mem_set_unit.mpr fun a => by
    have e : (![0, 0] : Fin 2 → ℕ) a = 0 := congrFun offsets_two a
    rw [e, Nat.zero_add]
    exact ⟨Nat.zero_le _, (y a).isLt⟩

/-- The rows that the kernel keeps are the rows of its block. -/
theorem kept_eq : kernelRun0_A.sl.v6 (F := Ideal) c a1 h1 a7 x = k0_pay2 (F := Ideal) x := by
  unfold kernelRun0_A.sl.v6 kernelRun0_A.sl.HS0_1
  refine (View.readCov_eq_canon_ld _ _ _ fun y => ?_).trans ?_
  · refine ⟨_, List.mem_singleton_self _, ?_⟩
    exact mem_whole y
  rw [View.canon_unit_zero offsets_two, View.ld_unit_zero offsets_two]
  rw [View.readAt_eq_ld, Memref.IsWhole.read_unread, View.ld_unit_zero offsets_three]
/-- The rows kept for the products are the sequence's. -/
theorem kept_rows (s : Fin 2048) (k : Fin 1024) : kernelRun0_A.sl.v6 (F := Ideal) c a1 h1 a7 x (ix2 s k) = x (ix3 0 s k) :=
  (congrFun (kept_eq c a1 h1 a7 x) (ix2 s k)).trans (rows_apply x s k)

end Cert.EvenMixIdeal.EvenMix

end
-- ==== Proof.EvenMix.Pieces.lean ====
/-
  The block that one grid point of the even mixer leaves is the mixer's rows of its block of the argument.
-/
module

public import proofs.«01_k».proof.Proof.EvenMix.Stored

@[expose] public section

set_option maxRecDepth 16384

noncomputable section

namespace Cert.EvenMixIdeal.EvenMix

open Idealize.ShloMosaic Idealize.ShloMosaic.TcCoe Idealize.ShloMosaic.Tactic Idealize.ShloMosaic.Pointwise
open Cert.EvenMixIdeal.Gen Cert.EvenMix

/-- A pooled piece from the elements it is made of, -/
theorem pool_eq {x : FVec Ideal S2048x1024 .bf16} {w : FVec Ideal S1024x128 .bf16} {p : FVec Ideal S1x128x128 .bf16} {q : FVec Ideal S1x128 .f32}
    {x' : Fin 2048 → Fin 1024 → EReal} {w' : Fin 128 → Fin 1024 → EReal} {p' : Fin 128 → EReal} {q' : EReal} {h : ℕ} {t : Fin 2048} {j : Fin 128}
    (hx : ∀ s k, x (ix2 s k) = x' s k) (hw : ∀ k c, w (ix2 k c) = w' c k) (hp : ∀ c, p (ix3 0 c j) = p' c) (hq : q (ix2 0 j) = q') :
    pool x w p q h t j = mix h (fun c => col x' (w' c)) p' t * q' := by
  show mix h (fun c => col (fun s k => x (ix2 s k)) fun k => w (ix2 k c)) (fun c => p (ix3 0 c j)) t * q (ix2 0 j) = _
  simp only [hx, hw, hp, hq]

/-- and a convolved one. -/
theorem gated_eq {x : FVec Ideal S2048x1024 .bf16} {wb wc wv : FVec Ideal S1024x256 .bf16} {c0 c1 c2 : FVec Ideal S1x256 .f32}
    {x' : Fin 2048 → Fin 1024 → EReal} {b' c' v' : Fin 1024 → EReal} {r0 r1 r2 : EReal} {t : Fin 2048} {j : Fin 256}
    (hx : ∀ s k, x (ix2 s k) = x' s k) (hb : ∀ k, wb (ix2 k j) = b' k) (hc : ∀ k, wc (ix2 k j) = c' k) (hv : ∀ k, wv (ix2 k j) = v' k)
    (h0 : c0 (ix2 0 j) = r0) (h1 : c1 (ix2 0 j) = r1) (h2 : c2 (ix2 0 j) = r2) :
    gated x wb wc wv c0 c1 c2 t j = conv (col x' b') (fun s => col x' c' s * col x' v' s) r0 r1 r2 t := by
  simp only [gated, laneC, hx, hb, hc, hv, h0, h1, h2]

variable (c : Dev nD) (i : grid0.Coords) (a1 : Memref sig .tc .vmem S1x2048x1024 .f32) (h1 : a1.IsWhole)
  (a2 : Memref sig .tc .vmem S1024x2048 .bf16) (h2 : a2.IsWhole) (a3 : Memref sig .tc .vmem S4x128x128 .bf16) (h3 : a3.IsWhole)
  (a4 : Memref sig .tc .vmem S1x512 .f32) (h4 : a4.IsWhole) (a5 : Memref sig .tc .vmem S3x512 .f32) (h5 : a5.IsWhole)
  (a6 : Memref sig .tc .vmem S1x2048x1024 .bf16) (h6 : a6.IsWhole) (a7 : Memref sig .tc .vmem S2048x1024 .bf16) (h7 : a7.IsWhole)
  (x : FVec Ideal S1x2048x1024 .f32) (w : FVec Ideal S1024x2048 .bf16) (p : FVec Ideal S4x128x128 .bf16) (q : FVec Ideal S1x512 .f32)
  (cw : FVec Ideal S3x512 .f32)

/-- The mixer's rows of a block. -/
abbrev blockLayer (s : Fin 2048) (n : Fin 1024) : EReal :=
  layer (fun s k => x (ix3 0 s k)) (fun k n => w (ix2 k n)) (fun g c j => p (ix3 g c j)) (fun n => q (ix2 0 n)) (fun r n => cw (ix2 r n)) s n

/-- Each column of the block lies in one of the six pieces. -/
theorem out_at (z : Fin 1) (s : Fin 2048) (n : Fin 1024) :
    out0_A_5 (F := Ideal) c i a1 h1 a2 h2 a3 h3 a4 h4 a5 h5 a6 h6 a7 h7 x w p q cw (ix3 z s n) = blockLayer x w p q cw s n := by
  unfold out0_A_5 kernelRun0_A blockLayer
  dsimp only
  rw [View.read_writes_junk_eq_canon]
  have hx := kept_rows c a1 h1 a7 x
  by_cases n1 : n.val < 512
  · have l1 := fun g j h => layer_pool (fun s k => x (ix3 0 s k)) (fun k n => w (ix2 k n)) (fun g c j => p (ix3 g c j)) (fun n => q (ix2 0 n))
      (fun r n => cw (ix2 r n)) s g j n h
    rw [skip 768 256 _ _ _ z s n (by omega), skip 512 256 _ _ _ z s n (by omega)]
    by_cases n2 : n.val < 384
    · rw [skip 384 128 _ _ _ z s n (by omega)]
      by_cases n3 : n.val < 256
      · rw [skip 256 128 _ _ _ z s n (by omega)]
        by_cases n4 : n.val < 128
        · rw [skip 128 128 _ _ _ z s n (by omega)]
          obtain ⟨j, hj⟩ : ∃ j : Fin 128, n.val = 0 + j.val := ⟨⟨n.val, n4⟩, (Nat.zero_add _).symm⟩
          rw [take 0 128 _ _ _ z s n j hj, l1 0 j (by simpa using hj)]
          exact (piece_one _ _ _ _ z s j).trans (pool_eq hx (fun k c => load_w a2 h2 w 0 128 _ k c _ (by simp))
            (fun c => load_p a3 h3 p 0 _ c j _ rfl) (load_q a4 h4 q 0 _ j _ (by simp)))
        · obtain ⟨j, hj⟩ : ∃ j : Fin 128, n.val = 128 + j.val := ⟨⟨n.val - 128, by omega⟩, by show _ = 128 + (n.val - 128); omega⟩
          rw [take 128 128 _ _ _ z s n j hj, l1 1 j hj]
          exact (piece_two _ _ _ _ z s j).trans (pool_eq hx (fun k c => load_w a2 h2 w 128 128 _ k c _ rfl)
            (fun c => load_p a3 h3 p 1 _ c j _ rfl) (load_q a4 h4 q 128 _ j _ rfl))
      · obtain ⟨j, hj⟩ : ∃ j : Fin 128, n.val = 256 + j.val := ⟨⟨n.val - 256, by omega⟩, by show _ = 256 + (n.val - 256); omega⟩
        rw [take 256 128 _ _ _ z s n j hj, l1 2 j hj]
        exact (piece_four _ _ _ _ z s j).trans (pool_eq hx (fun k c => load_w a2 h2 w 256 128 _ k c _ rfl)
          (fun c => load_p a3 h3 p 2 _ c j _ rfl) (load_q a4 h4 q 256 _ j _ rfl))
    · obtain ⟨j, hj⟩ : ∃ j : Fin 128, n.val = 384 + j.val := ⟨⟨n.val - 384, by omega⟩, by show _ = 384 + (n.val - 384); omega⟩
      rw [take 384 128 _ _ _ z s n j hj, l1 3 j hj]
      exact (piece_eight _ _ _ _ z s j).trans (pool_eq hx (fun k c => load_w a2 h2 w 384 128 _ k c _ rfl)
        (fun c => load_p a3 h3 p 3 _ c j _ rfl) (load_q a4 h4 q 384 _ j _ rfl))
  · have l2 := fun j h => layer_gated (fun s k => x (ix3 0 s k)) (fun k n => w (ix2 k n)) (fun g c j => p (ix3 g c j)) (fun n => q (ix2 0 n))
      (fun r n => cw (ix2 r n)) s j n h
    by_cases n2 : n.val < 768
    · obtain ⟨j, hj⟩ : ∃ j : Fin 256, n.val = 512 + j.val := ⟨⟨n.val - 512, by omega⟩, by show _ = 512 + (n.val - 512); omega⟩
      rw [skip 768 256 _ _ _ z s n (by omega), take 512 256 _ _ _ z s n j hj, l2 ⟨0 + j.val, by omega⟩ (by simpa using hj)]
      exact (piece_left _ _ _ _ _ _ _ z s j).trans (gated_eq hx (fun k => load_w a2 h2 w 512 256 _ k j _ (by simp))
        (fun k => load_w a2 h2 w 1024 256 _ k j _ (by simp)) (fun k => load_w a2 h2 w 1536 256 _ k j _ (by simp))
        (load_c a5 h5 cw 0 0 _ j 0 _ rfl rfl) (load_c a5 h5 cw 1 0 _ j 1 _ rfl rfl) (load_c a5 h5 cw 2 0 _ j 2 _ rfl rfl))
    · obtain ⟨j, hj⟩ : ∃ j : Fin 256, n.val = 768 + j.val := ⟨⟨n.val - 768, by omega⟩, by show _ = 768 + (n.val - 768); omega⟩
      rw [take 768 256 _ _ _ z s n j hj, l2 ⟨256 + j.val, by omega⟩ (by show _ = 512 + (256 + j.val); omega)]
      exact (piece_right _ _ _ _ _ _ _ z s j).trans (gated_eq hx
        (fun k => load_w a2 h2 w 768 256 _ k j _ (by show 512 + (256 + j.val) = _; omega))
        (fun k => load_w a2 h2 w 1280 256 _ k j _ (by show 1024 + (256 + j.val) = _; omega))
        (fun k => load_w a2 h2 w 1792 256 _ k j _ (by show 1536 + (256 + j.val) = _; omega))
        (load_c a5 h5 cw 0 256 _ j 0 _ rfl rfl) (load_c a5 h5 cw 1 256 _ j 1 _ rfl rfl) (load_c a5 h5 cw 2 256 _ j 2 _ rfl rfl))

end Cert.EvenMixIdeal.EvenMix

end
-- ==== Proof.EvenMix.Array.lean ====
/-
  The even mixer's array after the run: each grid point has one sequence of the batch, and its block is that sequence mixed.
-/
module

public import proofs.«01_k».proof.Proof.EvenMix.Pieces
public import proofs.«01_k».proof.Proof.Rows.Block

@[expose] public section

set_option maxRecDepth 16384

noncomputable section

namespace Cert.EvenMixIdeal.EvenMix

open Idealize.ShloMosaic Idealize.ShloMosaic.TcCoe Idealize.ShloMosaic.Tactic Idealize.ShloMosaic.StableHlo
open Idealize.ShloMosaic.Pointwise
open Cert.EvenMixIdeal.Gen Cert.EvenMix Cert.Rows

/-- Each sequence of the batch mixed. -/
def mixed (x : FVec Ideal S16x2048x1024 .f32) (w : FVec Ideal S1024x2048 .f32) (p : FVec Ideal S4x128x128 .f32) (q : FVec Ideal S512 .f32)
    (cw : FVec Ideal S3x512 .f32) : FVec Ideal S16x2048x1024 .bf16 :=
  fun y => layer (fun s k => x (ix3 (y 0) s k)) (fun k n => w (ix2 k n)) (fun g c j => p (ix3 g c j)) (fun n => q (ix1 n))
    (fun r n => cw (ix2 r n)) (y 1) (y 2)

variable (m : (ℓ : Loc nD τ sig) → Buf (Elt Ideal) ℓ) (c : Dev nD) (t : Fin cfg0.N)

/-- The arguments: the sequences, -/
abbrev xa : FVec Ideal S16x2048x1024 .f32 := m ((c.tc : Thread nD τ).loc main_arg0)
/-- the projection, -/
abbrev wa : FVec Ideal S1024x2048 .f32 := m ((c.tc : Thread nD τ).loc main_arg1)
/-- the mixing weights, -/
abbrev pa : FVec Ideal S4x128x128 .f32 := m ((c.tc : Thread nD τ).loc main_arg2)
/-- their scale -/
abbrev qa : FVec Ideal S512 .f32 := m ((c.tc : Thread nD τ).loc main_arg3)
/-- and the convolution's weights. -/
abbrev ca : FVec Ideal S3x512 .f32 := m ((c.tc : Thread nD τ).loc main_arg4)

/-- The sequence a point has. -/
def seqNo : Fin 16 := grid0.coords t 0
/-- It is the point's number. -/
theorem seqNo_val (t : Fin grid0.N) : (seqNo t).val = t.val := by
  have h : ∀ t : Fin grid0.N, (grid0.coords t 0).val = t.val := by decide +kernel
  exact h t

/-- The point that has a sequence. -/
def pointOf (n : Fin 16) : Fin cfg0.N := ⟨n.val, n.isLt.trans_eq N_0.symm⟩
/-- A sequence's point has it. -/
theorem seqNo_pointOf (n : Fin 16) : seqNo (pointOf n) = n := Fin.ext (seqNo_val _)

/-- A point's blocks: of the sequences, -/
abbrev xBlock : FVec Ideal S1x2048x1024 .f32 := iblk m c 0 t
/-- of the projection, -/
abbrev wBlock : FVec Ideal S1024x2048 .bf16 := iblk m c 1 t
/-- of the mixing weights, -/
abbrev pBlock : FVec Ideal S4x128x128 .bf16 := iblk m c 2 t
/-- of their scale -/
abbrev qBlock : FVec Ideal S1x512 .f32 := iblk m c 3 t
/-- and of the convolution's weights. -/
abbrev cBlock : FVec Ideal S3x512 .f32 := iblk m c 4 t

/-- An index of a block that is one sequence of the batch. -/
theorem ix_of_seq (n : Fin 16) (y : S1x2048x1024.Idx) (i : S16x2048x1024.Idx) (h0 : (i 0).val = (BitVec.ofNat 32 n.val).toNat * 1 + 1 * (y 0).val)
    (h1 : (i 1).val = 0 * 2048 + 1 * (y 1).val) (h2 : (i 2).val = 0 * 1024 + 1 * (y 2).val) : i = ix3 n (y 1) (y 2) := by
  have hn : n.val < 16 := n.isLt
  have hy : (y 0).val < 1 := (y 0).isLt
  rw [BitVec.toNat_ofNat] at h0
  refine funext fun b => Fin.ext ?_
  match b with
  | ⟨0, _⟩ => show (i 0).val = n.val; omega
  | ⟨1, _⟩ => show (i 1).val = (y 1).val; omega
  | ⟨2, _⟩ => show (i 2).val = (y 2).val; omega

/-- Indices of blocks that are whole arrays. -/
theorem whole_two {A B : ℕ} (y z : (⟨2, ![A, B]⟩ : Shape).Idx) (h0 : (y 0).val = 0 * A + 1 * (z 0).val) (h1 : (y 1).val = 0 * B + 1 * (z 1).val) :
    y = z :=
  funext fun b => Fin.ext (match b with
    | ⟨0, _⟩ => h0.trans (show 0 * A + 1 * (z 0).val = (z 0).val by omega)
    | ⟨1, _⟩ => h1.trans (show 0 * B + 1 * (z 1).val = (z 1).val by omega))
/-- The same in three dimensions. -/
theorem whole_three {A B C : ℕ} (y z : (⟨3, ![A, B, C]⟩ : Shape).Idx) (h0 : (y 0).val = 0 * A + 1 * (z 0).val)
    (h1 : (y 1).val = 0 * B + 1 * (z 1).val) (h2 : (y 2).val = 0 * C + 1 * (z 2).val) : y = z :=
  funext fun b => Fin.ext (match b with
    | ⟨0, _⟩ => h0.trans (show 0 * A + 1 * (z 0).val = (z 0).val by omega)
    | ⟨1, _⟩ => h1.trans (show 0 * B + 1 * (z 1).val = (z 1).val by omega)
    | ⟨2, _⟩ => h2.trans (show 0 * C + 1 * (z 2).val = (z 2).val by omega))

/-- What the host prepares: the projection rounded, -/
theorem V_w : V m c main_v0 = truncf (s := S1024x2048) .bf16 (wa m c) bitsLt_bf16_f32 := by
  unfold V; simp only [hostOps0]; after_results_simp <;> rfl
/-- the mixing weights rounded, -/
theorem V_p : V m c main_v1 = truncf (s := S4x128x128) .bf16 (pa m c) bitsLt_bf16_f32 := by
  unfold V; simp only [hostOps0]; after_results_simp <;> rfl
/-- and their scale with an axis of one element in front. -/
theorem V_q : V m c main_v2 = shapeCast S1x512 (qa m c) shapeCasts_S512_S1x512 := by
  unfold V; simp only [hostOps0]; after_results_simp <;> rfl

/-- A point's blocks are its sequence and the weights whole. -/
theorem x_block (s : Fin 2048) (k : Fin 1024) : xBlock m c t (ix3 0 s k) = xa m c (ix3 (seqNo t) s k) := by
  have hV : V m c main_arg0 = m ((c.tc : Thread nD τ).loc main_arg0) := V_main_arg0 m c
  unfold xa
  rw [← hV]
  exact congrArg (V m c main_arg0) (ix_of_seq (seqNo t) (ix3 0 s k) _ rfl rfl rfl)
/-- The projection's block is all of it, -/
theorem w_block (k : Fin 1024) (n : Fin 2048) : wBlock m c t (ix2 k n) = wa m c (ix2 k n) := by
  refine Eq.trans (b := (V m c main_v0 : FVec Ideal S1024x2048 .bf16) (ix2 k n)) (congrArg (V m c main_v0) (whole_two _ _ rfl rfl)) ?_
  rw [V_w]; rfl
/-- so is that of the mixing weights, -/
theorem p_block (g : Fin 4) (k j : Fin 128) : pBlock m c t (ix3 g k j) = pa m c (ix3 g k j) := by
  refine Eq.trans (b := (V m c main_v1 : FVec Ideal S4x128x128 .bf16) (ix3 g k j)) (congrArg (V m c main_v1) (whole_three _ _ rfl rfl rfl)) ?_
  rw [V_p]; rfl
/-- of their scale -/
theorem q_block (n : Fin 512) : qBlock m c t (ix2 0 n) = qa m c (ix1 n) := by
  refine Eq.trans (b := (V m c main_v2 : FVec Ideal S1x512 .f32) (ix2 0 n)) (congrArg (V m c main_v2) (whole_two _ _ rfl rfl)) ?_
  rw [V_q]; pointwise []
/-- and of the convolution's weights. -/
theorem c_block (r : Fin 3) (n : Fin 512) : cBlock m c t (ix2 r n) = ca m c (ix2 r n) := by
  have hV : V m c main_arg4 = m ((c.tc : Thread nD τ).loc main_arg4) := V_main_arg4 m c
  unfold ca
  rw [← hV]
  exact congrArg (V m c main_arg4) (whole_two _ _ rfl rfl)

/-- The arguments' sequences mixed. -/
abbrev mixedA : FVec Ideal S16x2048x1024 .bf16 := mixed (xa m c) (wa m c) (pa m c) (qa m c) (ca m c)

/-- What a point stores, -/
theorem block_mixed : outsAt0 m c t = fun y : S1x2048x1024.Idx => mixedA m c (ix3 (seqNo t) (y 1) (y 2)) := by
  refine funext fun y => ?_
  rw [eq_ix3 y]
  refine (out_at c _ _ _ _ _ _ _ _ _ _ _ _ _ _ _ (xBlock m c t) (wBlock m c t) (pBlock m c t) (qBlock m c t) (cBlock m c t) (y 0) (y 1) (y 2)).trans ?_
  unfold blockLayer
  simp only [x_block, w_block, p_block, q_block, c_block]
  rfl

/-- where its block lies, -/
theorem emb_mixed (y : S1x2048x1024.Idx) : ((cfg0.win 5).blk t).view.emb y = (ix3 (seqNo t) (y 1) (y 2) : S16x2048x1024.Idx) :=
  ix_of_seq (seqNo t) y _ rfl rfl rfl

/-- and that every point writes it back. -/
theorem flush_mixed : ∀ t : Fin cfg0.N, (cfg0.win 5).flush t = true := by decide +kernel
/-- After the run the result is the arguments' sequences mixed. -/
theorem array_mixed : (dats m 0 c).arrAt 5 cfg0.N = mixedA m c :=
  (dats m 0 c).arrAt_eq_of_cover 5 _ (fun t _ => (Value.flushed5 m c t).trans
      (funext fun y => (congrFun (block_mixed m c t) y).trans (congrArg (mixedA m c) (emb_mixed t y).symm)))
    (fun i => ⟨pointOf (i 0), flush_mixed _, mem_of_emb _ (ix3 0 (i 1) (i 2) : S1x2048x1024.Idx)
      ((emb_mixed _ _).trans ((congrArg (fun n : Fin 16 => (ix3 n (i 1) (i 2) : S16x2048x1024.Idx)) (seqNo_pointOf (i 0))).trans (eq_ix3 i).symm))⟩)

end Cert.EvenMixIdeal.EvenMix

end
-- ==== Proof.EvenMix.Reference.lean ====
/-
  The even mixer's reference, read at one row and one column.
-/
module

public import proofs.«01_k».proof.Proof.Gen.EvenMixReferenceIdeal.Run
public import proofs.«01_k».proof.Proof.EvenMix.Layer

@[expose] public section

set_option maxRecDepth 16384

noncomputable section

namespace Cert.EvenMixReferenceIdeal.EvenMix

open Idealize.ShloMosaic Idealize.ShloMosaic.TcCoe Idealize.ShloMosaic.Tactic Idealize.SL.Sem
open Idealize.ShloMosaic.Pointwise
open Cert.EvenMixReferenceIdeal Cert.EvenMixReferenceIdeal.Gen Cert.EvenMix

/-- The widths of the windows. -/
abbrev widths : IVec S4 32 := fun i => lit0 (S4.rowMajor i)
/-- The divisor of the widths. -/
abbrev two : IVec S4 32 := broadcastInDim S4 ![] bcast_S_S4 (id (constantI S_ 32 2#32))
/-- The widths halved, rounded down. -/
abbrev halves : IVec S4 32 :=
  select (andi (cmpi .ne (signi widths) (broadcastInDim S4 ![] bcast_S_S4 (signi (id (constantI S_ 32 2#32)))))
      (cmpi .ne (Host.remsi widths two) (broadcastInDim S4 ![] bcast_S_S4 (constantI S_ 32 0#32))))
    (subi (Host.divsi widths two) (broadcastInDim S4 ![] bcast_S_S4 (constantI S_ 32 1#32))) (Host.divsi widths two)

/-- They are 1, 2, 4 and 8. -/
theorem halves_apply (g : Fin 4) : halves (ix1 g) = BitVec.ofNat 32 (2 ^ g.val) := by
  fin_cases g <;> rfl

/-- The rows' numbers, for each window. -/
abbrev rowNo : IVec S4x2048 32 :=
  broadcastInDim S4x2048 ![0, 1] bcast_S1x2048_S4x2048_0_1 (broadcastInDim S1x2048 ![1] bcast_S2048_S1x2048_1 (iotaInDim S2048 32 0))
/-- The half widths over all rows. -/
abbrev spread : IVec S4x2048 32 :=
  broadcastInDim S4x2048 ![0, 1] bcast_S4x1_S4x2048_0_1 (broadcastInDim S4x1 ![0] bcast_S4_S4x1_0 halves)
/-- The first rows, -/
abbrev first : IVec S4x2048 32 := subi rowNo spread
/-- and the rows after the last. -/
abbrev last : IVec S4x2048 32 := addi rowNo spread

/-- Read at one window and row, the first row -/
theorem first_apply (g : Fin 4) (t : Fin 2048) : first (ix2 g t) = IntOp.subi (BitVec.ofNat 32 t.val) (BitVec.ofNat 32 (2 ^ g.val)) := by
  rw [← halves_apply]
  pointwise [first, rowNo, spread]
/-- and the row after the last. -/
theorem last_apply (g : Fin 4) (t : Fin 2048) : last (ix2 g t) = IntOp.addi (BitVec.ofNat 32 t.val) (BitVec.ofNat 32 (2 ^ g.val)) := by
  rw [← halves_apply]
  pointwise [last, rowNo, spread]

/-- The numbers of the rows that may lie in a window. -/
abbrev allRows : IVec S4x2048x2048 32 :=
  broadcastInDim S4x2048x2048 ![0, 1, 2] bcast_S1x1x2048_S4x2048x2048_0_1_2 (broadcastInDim S1x1x2048 ![2] bcast_S2048_S1x1x2048_2 (iotaInDim S2048 32 0))
/-- A number of each window and row over all rows. -/
abbrev along (v : IVec S4x2048 32) : IVec S4x2048x2048 32 :=
  broadcastInDim S4x2048x2048 ![0, 1, 2] bcast_S4x2048x1_S4x2048x2048_0_1_2 (broadcastInDim S4x2048x1 ![0, 1] bcast_S4x2048_S4x2048x1_0_1 v)
/-- A row that a window has counts 1, another 0. -/
abbrev inside : FVec Ideal S4x2048x2048 .f32 :=
  uitofp .f32 (andi (cmpi .sge allRows (along first)) (cmpi .slt allRows (along last)))

/-- One such entry, from the ends of the window. -/
theorem inside_read (g : Fin 4) (t s : Fin 2048) : inside (ix3 g t s)
    = FloatOps.uitofp (F := Ideal) .f32 (IntOp.andi (IntOp.cmpi .sge (BitVec.ofNat 32 s.val) (first (ix2 g t)))
      (IntOp.cmpi .slt (BitVec.ofNat 32 s.val) (last (ix2 g t)))) := by
  pointwise [inside, allRows, along]

/-- Row numbers clipped to the sequence. -/
abbrev clip (v : IVec S4x2048 32) : IVec S4x2048 32 :=
  minsi (broadcastInDim S4x2048 ![] bcast_S_S4x2048 (id (constantI S_ 32 2048#32)))
    (maxsi (broadcastInDim S4x2048 ![] bcast_S_S4x2048 (id (constantI S_ 32 0#32))) v)
/-- The clipped ends' distance. -/
abbrev counts : FVec Ideal S4x2048 .f32 := sitofp .f32 (subi (clip last) (clip first))

/-- Clipping is done entry by entry. -/
theorem clip_apply (v : IVec S4x2048 32) (i : S4x2048.Idx) : clip v i = IntOp.minsi 2048#32 (IntOp.maxsi 0#32 (v i)) := rfl

/-- The clipped ends of the windows are as many rows apart as the windows' rows inside. -/
theorem clipped (g : Fin 4) (t : Fin 2048) :
    IntOp.subi (IntOp.minsi 2048#32 (IntOp.maxsi 0#32 (IntOp.addi (BitVec.ofNat 32 t.val) (BitVec.ofNat 32 (2 ^ g.val)))))
        (IntOp.minsi 2048#32 (IntOp.maxsi 0#32 (IntOp.subi (BitVec.ofNat 32 t.val) (BitVec.ofNat 32 (2 ^ g.val)))))
      = IntOp.subi (IntOp.minsi (IntOp.addi (BitVec.ofNat 32 t.val) (BitVec.ofNat 32 (2 ^ g.val))) 2048#32)
        (IntOp.maxsi (IntOp.subi (BitVec.ofNat 32 t.val) (BitVec.ofNat 32 (2 ^ g.val))) 0#32) := by
  revert g t
  decide +kernel

/-- The count is the number of the window's rows inside the sequence. -/
theorem counts_apply (g : Fin 4) (t : Fin 2048) : counts (ix2 g t) = rowsIn (2 ^ g.val) t := by
  show FloatOps.sitofp (F := Ideal) .f32 (IntOp.subi (clip last (ix2 g t)) (clip first (ix2 g t))) = _
  rw [clip_apply, clip_apply, first_apply, last_apply, clipped]
  rfl

/-- The difference of a row number and a half width, as a signed number. -/
theorem toInt_first (t : Fin 2048) (g : Fin 4) :
    (IntOp.subi (BitVec.ofNat 32 t.val) (BitVec.ofNat 32 (2 ^ g.val))).toInt = (t.val : ℤ) - (2 ^ g.val : ℕ) := by
  revert t g
  decide +kernel
/-- The same of the sum. -/
theorem toInt_last (t : Fin 2048) (g : Fin 4) :
    (IntOp.addi (BitVec.ofNat 32 t.val) (BitVec.ofNat 32 (2 ^ g.val))).toInt = (t.val : ℤ) + (2 ^ g.val : ℕ) := by
  revert t g
  decide +kernel

/-- The entry is 1 exactly at the window's rows. -/
theorem inside_apply (g : Fin 4) (t s : Fin 2048) : inside (ix3 g t s)
    = if (t.val : ℤ) - (2 ^ g.val : ℕ) ≤ s.val ∧ (s.val : ℤ) < t.val + (2 ^ g.val : ℕ) then 1 else 0 := by
  rw [inside_read, first_apply, last_apply]
  have e1 : IntOp.cmpi .sge (BitVec.ofNat 32 s.val) (IntOp.subi (BitVec.ofNat 32 t.val) (BitVec.ofNat 32 (2 ^ g.val)))
      = BitVec.ofBool (decide ((t.val : ℤ) - (2 ^ g.val : ℕ) ≤ s.val)) := by
    show BitVec.ofBool (BitVec.sle _ _) = _
    rw [BitVec.sle_eq_decide, toInt_first, toInt_small _ (by omega)]
  have e2 : IntOp.cmpi .slt (BitVec.ofNat 32 s.val) (IntOp.addi (BitVec.ofNat 32 t.val) (BitVec.ofNat 32 (2 ^ g.val)))
      = BitVec.ofBool (decide ((s.val : ℤ) < t.val + (2 ^ g.val : ℕ))) := by
    show BitVec.ofBool (BitVec.slt _ _) = _
    rw [BitVec.slt_eq_decide, toInt_last, toInt_small _ (by omega)]
  rw [e1, e2]
  by_cases c1 : (t.val : ℤ) - (2 ^ g.val : ℕ) ≤ s.val <;> by_cases c2 : (s.val : ℤ) < t.val + (2 ^ g.val : ℕ) <;>
    simp only [c1, c2, and_self, and_true, and_false, if_true, if_false, decide_true, decide_false] <;>
    simp [IntOp.andi, FloatOps.uitofp, BitVec.ofBool]

variable (x : FVec Ideal S16x2048x1024 .f32) (w : FVec Ideal S1024x2048 .f32) (p : FVec Ideal S4x128x128 .f32) (q : FVec Ideal S512 .f32)
  (cw : FVec Ideal S3x512 .f32)

/-- The projection. -/
abbrev product : FVec Ideal S16x2048x2048 .f32 := Host.dotGeneral dot_S16x2048x1024_S1024x2048_S16x2048x2048_2_0_01_1_n_n none x w
/-- The first 512 columns in four groups. -/
abbrev groups : FVec Ideal S16x2048x4x128 .f32 :=
  shapeCast _ (extractStridedSlice S16x2048x512 ![0, 0, 0] (product x w) slices_S16x2048x2048_S16x2048x512_0_0_0) shapeCasts_S16x2048x512_S16x2048x4x128

/-- One column of the projection of one sequence. -/
abbrev column (b : Fin 16) (n : ℕ) (h : n < 2048) : Fin 2048 → EReal := proj (fun s k => x (ix3 b s k)) (fun k n => w (ix2 k n)) n h

/-- An entry of a group is one of the projection's column. -/
theorem groups_apply (b : Fin 16) (s : Fin 2048) (g : Fin 4) (c : Fin 128) :
    groups x w (ix4 b s g c) = column x w b (128 * g.val + c.val) (by omega) s := by
  pointwise [groups, product, column, proj, col]
  simp only [Nat.mul_comm]

variable (u : FVec Ideal S16x2048x4x128 .f32) (band : FVec Ideal S4x2048x2048 .f32) (num : FVec Ideal S4x2048 .f32)

/-- The windows' means, less the columns themselves. -/
abbrev pooledRows : FVec Ideal S16x2048x4x128 .f32 :=
  subf (Host.divf (transpose S16x2048x4x128 [1, 3, 0, 2] (Host.dotGeneral dot_S16x2048x4x128_S4x2048x2048_S4x16x128x2048_1_2_03_1_2_0 none u band)
      transposes_S4x16x128x2048_S16x2048x4x128_1_3_0_2)
    (broadcastInDim S16x2048x4x128 ![0, 1, 2, 3] bcast_S1x2048x4x1_S16x2048x4x128_0_1_2_3
      (broadcastInDim S1x2048x4x1 ![1, 2] bcast_S2048x4_S1x2048x4x1_1_2 (transpose S2048x4 [1, 0] num transposes_S4x2048_S2048x4_1_0)))) u

/-- One entry of them. -/
theorem pooledRows_apply (b : Fin 16) (t : Fin 2048) (g : Fin 4) (c : Fin 128) : pooledRows u band num (ix4 b t g c)
    = Ideal.div (∑ s : Fin 2048, u (ix4 b s g c) * band (ix3 g t s)) (num (ix2 g t)) - u (ix4 b t g c) := by
  pointwise [pooledRows]

/-- The pooled groups mixed and scaled. -/
abbrev mixedRows : FVec Ideal S16x2048x512 .f32 :=
  mulf (shapeCast _ (transpose S16x2048x4x128 [2, 3, 0, 1] (Host.dotGeneral dot_S4x128x128_S16x2048x4x128_S4x128x16x2048_1_3_2_01_0_2 none p u)
      transposes_S4x128x16x2048_S16x2048x4x128_2_3_0_1) shapeCasts_S16x2048x4x128_S16x2048x512)
    (broadcastInDim S16x2048x512 ![0, 1, 2] bcast_S1x1x512_S16x2048x512_0_1_2 (broadcastInDim S1x1x512 ![2] bcast_S512_S1x1x512_2 q))

/-- One entry of them. -/
theorem mixedRows_apply (b : Fin 16) (t : Fin 2048) (g : Fin 4) (j : Fin 128) : mixedRows p q u (ix3 b t ⟨128 * g.val + j.val, by omega⟩)
    = (∑ c : Fin 128, p (ix3 g c j) * u (ix4 b t g c)) * q (ix1 ⟨128 * g.val + j.val, by omega⟩) := by
  pointwise [mixedRows]

/-- The columns that gate the convolution. -/
abbrev gate : FVec Ideal S16x2048x512 .f32 :=
  extractStridedSlice S16x2048x512 ![0, 0, 512] (product x w) slices_S16x2048x2048_S16x2048x512_0_0_512
/-- The product of the last two. -/
abbrev gatedCols : FVec Ideal S16x2048x512 .f32 :=
  mulf (extractStridedSlice S16x2048x512 ![0, 0, 1024] (product x w) slices_S16x2048x2048_S16x2048x512_0_0_1024)
    (extractStridedSlice S16x2048x512 ![0, 0, 1536] (product x w) slices_S16x2048x2048_S16x2048x512_0_0_1536)

/-- An entry of the gate, -/
theorem gate_apply (b : Fin 16) (s : Fin 2048) (j : Fin 512) : gate x w (ix3 b s j) = column x w b (512 + j.val) (by omega) s := by
  pointwise [gate, product, column, proj, col]
/-- and of the product. -/
theorem gatedCols_apply (b : Fin 16) (s : Fin 2048) (j : Fin 512) :
    gatedCols x w (ix3 b s j) = column x w b (1024 + j.val) (by omega) s * column x w b (1536 + j.val) (by omega) s := by
  pointwise [gatedCols, product, column, proj, col]

variable (v : FVec Ideal S16x2048x512 .f32)

/-- Columns with a row of zeros on either side, -/
abbrev padded : FVec Ideal S16x2050x512 .f32 :=
  pad S16x2050x512 ![0, 1, 0] ![0, 1, 0] ![0, 0, 0] v (sitofp .f32 (constantI S_ 32 0#32)) pads_S16x2048x512_S16x2050x512_000_110_000 h_S_

/-- which are the columns continued by zeros. -/
theorem padded_apply (b : Fin 16) (i : Fin 2050) (j : Fin 512) : padded v (ix3 b i j) = ext (fun s => v (ix3 b s j)) ((i.val : ℤ) - 1) := by
  pointwise [padded]
  have hi := i.isLt
  by_cases h : 1 ≤ i.val ∧ i.val - 1 < 2048
  · rw [dif_pos h]
    have e : (i.val : ℤ) - 1 = ((⟨i.val - 1, h.2⟩ : Fin 2048).val : ℤ) := by show _ = ((i.val - 1 : ℕ) : ℤ); omega
    rw [e, ext_at]
  · rw [dif_neg h, ext_outside _ _ (by omega)]
    simp [FloatOps.sitofp]

/-- The convolution's weights, the first row of them over all rows, -/
abbrev tap0 : FVec Ideal S16x2048x512 .f32 :=
  broadcastInDim S16x2048x512 ![0, 1, 2] bcast_S1x1x512_S16x2048x512_0_1_2 (broadcastInDim S1x1x512 ![2] bcast_S512_S1x1x512_2
    (shapeCast _ (extractStridedSlice S1x512 ![0, 0] cw slices_S3x512_S1x512_0_0) shapeCasts_S1x512_S512))
/-- the next row -/
abbrev tap1 : FVec Ideal S16x2048x512 .f32 :=
  broadcastInDim S16x2048x512 ![0, 1, 2] bcast_S1x1x512_S16x2048x512_0_1_2 (broadcastInDim S1x1x512 ![2] bcast_S512_S1x1x512_2
    (shapeCast _ (extractStridedSlice S1x512 ![1, 0] cw slices_S3x512_S1x512_1_0) shapeCasts_S1x512_S512))
/-- and the last. -/
abbrev tap2 : FVec Ideal S16x2048x512 .f32 :=
  broadcastInDim S16x2048x512 ![0, 1, 2] bcast_S1x1x512_S16x2048x512_0_1_2 (broadcastInDim S1x1x512 ![2] bcast_S512_S1x1x512_2
    (shapeCast _ (extractStridedSlice S1x512 ![2, 0] cw slices_S3x512_S1x512_2_0) shapeCasts_S1x512_S512))

/-- The convolution of the padded columns, gated. -/
abbrev convRows (g : FVec Ideal S16x2048x512 .f32) (y : FVec Ideal S16x2050x512 .f32) : FVec Ideal S16x2048x512 .f32 :=
  mulf g (addf (addf (mulf (extractStridedSlice S16x2048x512 ![0, 0, 0] y slices_S16x2050x512_S16x2048x512_0_0_0) (tap0 cw))
      (mulf (extractStridedSlice S16x2048x512 ![0, 1, 0] y slices_S16x2050x512_S16x2048x512_0_1_0) (tap1 cw)))
    (mulf (extractStridedSlice S16x2048x512 ![0, 2, 0] y slices_S16x2050x512_S16x2048x512_0_2_0) (tap2 cw)))

/-- Row `t` takes the padded rows `t`, `t + 1` and `t + 2`. -/
theorem convRows_apply (g : FVec Ideal S16x2048x512 .f32) (y : FVec Ideal S16x2050x512 .f32) (b : Fin 16) (t : Fin 2048) (j : Fin 512) :
    convRows cw g y (ix3 b t j) = g (ix3 b t j) * (y (ix3 b ⟨t.val, by omega⟩ j) * cw (ix2 0 j) + y (ix3 b ⟨1 + t.val, by omega⟩ j) * cw (ix2 1 j)
      + y (ix3 b ⟨2 + t.val, by omega⟩ j) * cw (ix2 2 j)) := by
  pointwise [convRows, tap0, tap1, tap2]

/-- The reference's whole result. -/
abbrev whole (a b : FVec Ideal S16x2048x512 .f32) : FVec Ideal S16x2048x1024 .bf16 :=
  truncf .bf16 (concatenate S16x2048x1024 2 [⟨S16x2048x512, a⟩, ⟨S16x2048x512, b⟩] concatenates_S16x2048x512_S16x2048x512_S16x2048x1024_d2) bitsLt_bf16_f32

/-- Its first 512 columns are the first half's, -/
theorem whole_left (a b : FVec Ideal S16x2048x512 .f32) (n : Fin 16) (t : Fin 2048) (i : Fin 1024) (j : Fin 512) (h : i.val = j.val) :
    whole a b (ix3 n t i) = a (ix3 n t j) := by
  have e : i = ⟨j.val, by omega⟩ := Fin.ext h
  rw [e]
  pointwise [whole]

/-- the others the second's. -/
theorem whole_right (a b : FVec Ideal S16x2048x512 .f32) (n : Fin 16) (t : Fin 2048) (i : Fin 1024) (j : Fin 512) (h : i.val = 512 + j.val) :
    whole a b (ix3 n t i) = b (ix3 n t j) := by
  have e : i = ⟨512 + j.val, by omega⟩ := Fin.ext h
  rw [e]
  pointwise [whole]

/-- The pooled half, -/
theorem pooled_half (b : Fin 16) (t : Fin 2048) (g : Fin 4) (j : Fin 128) :
    mixedRows p q (pooledRows (groups x w) inside counts) (ix3 b t ⟨128 * g.val + j.val, by omega⟩)
      = poolAt (fun s k => x (ix3 b s k)) (fun k n => w (ix2 k n)) (fun g c j => p (ix3 g c j)) (fun n => q (ix1 n)) t g j := by
  rw [mixedRows_apply]
  unfold poolAt mix pooled window
  refine congrArg (· * q (ix1 ⟨128 * g.val + j.val, by omega⟩)) (Finset.sum_congr rfl fun c _ => ?_)
  rw [pooledRows_apply, counts_apply, mul_comm]
  simp only [groups_apply, inside_apply, mul_ite, mul_one, mul_zero]

/-- and the convolved half. -/
theorem conv_half (b : Fin 16) (t : Fin 2048) (j : Fin 512) : convRows cw (gate x w) (padded (gatedCols x w)) (ix3 b t j)
    = gatedAt (fun s k => x (ix3 b s k)) (fun k n => w (ix2 k n)) (fun r n => cw (ix2 r n)) t j := by
  rw [convRows_apply, padded_apply, padded_apply, padded_apply, gate_apply]
  simp only [gatedCols_apply]
  unfold gatedAt conv
  have e1 : ((1 + t.val : ℕ) : ℤ) - 1 = (t.val : ℤ) := by omega
  have e2 : ((2 + t.val : ℕ) : ℤ) - 1 = (t.val : ℤ) + 1 := by omega
  rw [e1, e2, ext_at]

/-- The result is each sequence mixed. -/
theorem whole_apply (b : Fin 16) (t : Fin 2048) (n : Fin 1024) :
    whole (mixedRows p q (pooledRows (groups x w) inside counts)) (convRows cw (gate x w) (padded (gatedCols x w))) (ix3 b t n)
      = layer (fun s k => x (ix3 b s k)) (fun k n => w (ix2 k n)) (fun g c j => p (ix3 g c j)) (fun n => q (ix1 n)) (fun r n => cw (ix2 r n)) t n := by
  by_cases h : n.val < 512
  · have hn : n.val = 128 * (n.val / 128) + n.val % 128 := by omega
    rw [whole_left _ _ b t n ⟨128 * (n.val / 128) + n.val % 128, by omega⟩ hn,
      layer_pool _ _ _ _ _ t ⟨n.val / 128, by omega⟩ ⟨n.val % 128, by omega⟩ n hn]
    exact pooled_half x w p q b t ⟨n.val / 128, by omega⟩ ⟨n.val % 128, by omega⟩
  · have hn : n.val = 512 + (n.val - 512) := by omega
    rw [whole_right _ _ b t n ⟨n.val - 512, by omega⟩ hn, layer_gated _ _ _ _ _ t ⟨n.val - 512, by omega⟩ n hn]
    exact conv_half x w cw b t ⟨n.val - 512, by omega⟩

variable (m : (ℓ : Loc nD τ sig) → Buf (Elt Ideal) ℓ) (c : Dev nD)

/-- The reference's result is this one of the arguments. -/
theorem result_eq : Value.res_out0 m c
    = whole (mixedRows (m ((c.tc : Thread nD τ).loc main_arg2)) (m ((c.tc : Thread nD τ).loc main_arg3))
        (pooledRows (groups (m ((c.tc : Thread nD τ).loc main_arg0)) (m ((c.tc : Thread nD τ).loc main_arg1))) inside counts))
      (convRows (m ((c.tc : Thread nD τ).loc main_arg4)) (gate (m ((c.tc : Thread nD τ).loc main_arg0)) (m ((c.tc : Thread nD τ).loc main_arg1)))
        (padded (gatedCols (m ((c.tc : Thread nD τ).loc main_arg0)) (m ((c.tc : Thread nD τ).loc main_arg1))))) := by
  unfold Value.res_out0 Value.res_main_v71
  rfl

end Cert.EvenMixReferenceIdeal.EvenMix

end
-- ==== Proof.EvenMix.Algebraic.lean ====
/-
  The even mixer: the kernel's result is the reference's.
-/
module

public import proofs.«01_k».proof.Defs
public import proofs.«01_k».proof.Proof.EvenMix.Array
public import proofs.«01_k».proof.Proof.EvenMix.Reference

@[expose] public section

set_option maxRecDepth 16384

noncomputable section

namespace Cert.EvenMixIdeal.EvenMix

open Idealize.ShloMosaic Idealize.ShloMosaic.TcCoe Idealize.SL.Sem
open Cert.EvenMixIdeal.Gen

/-- The reference's result is its arguments' sequences mixed. -/
theorem reference_mixed (m : (ℓ : Loc Cert.EvenMixReferenceIdeal.nD Cert.EvenMixReferenceIdeal.τ Cert.EvenMixReferenceIdeal.sig) → Buf (Elt Ideal) ℓ)
    (c : Dev Cert.EvenMixReferenceIdeal.nD) : Cert.EvenMixReferenceIdeal.Value.res_out0 m c
      = mixed (m ((c.tc : Thread Cert.EvenMixReferenceIdeal.nD Cert.EvenMixReferenceIdeal.τ).loc Cert.EvenMixReferenceIdeal.main_arg0))
          (m ((c.tc : Thread Cert.EvenMixReferenceIdeal.nD Cert.EvenMixReferenceIdeal.τ).loc Cert.EvenMixReferenceIdeal.main_arg1))
          (m ((c.tc : Thread Cert.EvenMixReferenceIdeal.nD Cert.EvenMixReferenceIdeal.τ).loc Cert.EvenMixReferenceIdeal.main_arg2))
          (m ((c.tc : Thread Cert.EvenMixReferenceIdeal.nD Cert.EvenMixReferenceIdeal.τ).loc Cert.EvenMixReferenceIdeal.main_arg3))
          (m ((c.tc : Thread Cert.EvenMixReferenceIdeal.nD Cert.EvenMixReferenceIdeal.τ).loc Cert.EvenMixReferenceIdeal.main_arg4)) := by
  refine (Cert.EvenMixReferenceIdeal.EvenMix.result_eq m c).trans (funext fun y => ?_)
  rw [eq_ix3 y]
  exact Cert.EvenMixReferenceIdeal.EvenMix.whole_apply _ _ _ _ _ (y 0) (y 1) (y 2)

/-- For all arguments the kernel's result is the reference's, element by element. -/
theorem algebraic : Cert.algebraic_EvenMixIdeal_EvenMixReferenceIdeal := by
  intro m g m' g' _ hargs
  refine ⟨fun c => mixedA m c, ?_, ?_⟩
  · refine (θ_run defs _ _).mono (fun r h c => ?_) (Value.run_blocks m g)
    obtain ⟨h0, hk⟩ := h c
    exact ⟨h0.trans (array_mixed m c), hk⟩
  · refine (θ_run Cert.EvenMixReferenceIdeal.defs _ _).mono (fun r h c => ?_) (Cert.EvenMixReferenceIdeal.Value.run m' g')
    obtain ⟨e0, e1, e2, e3, e4⟩ := hargs c
    obtain ⟨h0, hk⟩ := h c
    refine ⟨h0.trans ((reference_mixed m' c).trans ?_), hk⟩
    rw [e0, e1, e2, e3, e4]

end Cert.EvenMixIdeal.EvenMix

end
-- ==== Proof.lean ====
/-
  The claim about the four calls: each kernel, its idealization and its reference run and leave their arguments unchanged, the
  idealization is the program's own text, and the kernel's results are the reference's over the extended reals (`algebraic`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.OutLn
public import proofs.«01_k».proof.Proof.Gen.OutLn.Skeleton
public import proofs.«01_k».proof.Proof.Gen.OutLn.Launch
public import proofs.«01_k».proof.Proof.Gen.OutLn.Frame
public import proofs.«01_k».proof.Proof.Gen.OutLnIdeal
public import proofs.«01_k».proof.Proof.Gen.OutLnIdeal.Skeleton
public import proofs.«01_k».proof.Proof.Gen.OutLnIdeal.Launch
public import proofs.«01_k».proof.Proof.Gen.OutLnIdeal.Value
public import proofs.«01_k».proof.Proof.Gen.OutLnReferenceIdeal
public import proofs.«01_k».proof.Proof.Gen.OutLnReferenceIdeal.Run
public import proofs.«01_k».proof.Proof.Gen.EvenMix
public import proofs.«01_k».proof.Proof.Gen.EvenMix.Skeleton
public import proofs.«01_k».proof.Proof.Gen.EvenMix.Launch
public import proofs.«01_k».proof.Proof.Gen.EvenMix.Frame
public import proofs.«01_k».proof.Proof.Gen.EvenMixIdeal
public import proofs.«01_k».proof.Proof.Gen.EvenMixIdeal.Skeleton
public import proofs.«01_k».proof.Proof.Gen.EvenMixIdeal.Launch
public import proofs.«01_k».proof.Proof.Gen.EvenMixIdeal.Value
public import proofs.«01_k».proof.Proof.Gen.EvenMixReferenceIdeal
public import proofs.«01_k».proof.Proof.Gen.EvenMixReferenceIdeal.Run
public import proofs.«01_k».proof.Proof.Experts.Frame
public import proofs.«01_k».proof.Proof.Experts.Algebraic
public import proofs.«01_k».proof.Proof.Proj.Algebraic
public import proofs.«01_k».proof.Proof.OutLn.Algebraic
public import proofs.«01_k».proof.Proof.EvenMix.Frame
public import proofs.«01_k».proof.Proof.EvenMix.Algebraic
public import proofs.«01_k».proof.Proof.Gen.Pre_experts_in_range
public import proofs.«01_k».proof.Proof.Gen.Pre_all_finite
public import Idealize.ShloMosaic.Adequacy
public import Idealize.ShloMosaic.Init

@[expose] public section

noncomputable section

namespace Cert.Proof

open Idealize.ShloMosaic Idealize.SL.Sem Cert.Kernel

/-- The claim, from its parts: the facts of each program, the frames, and of each call the idealization and the equality of results. -/
theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.OutLn.Gen.facts, Cert.OutLnIdeal.Gen.facts, Cert.OutLnReferenceIdeal.Gen.facts,
  Cert.EvenMix.Gen.facts, Cert.EvenMixIdeal.Gen.facts, Cert.EvenMixReferenceIdeal.Gen.facts,
  Cert.Pre_experts_in_range.Gen.facts, Cert.Pre_all_finite.Gen.facts,
  Cert.KernelIdeal.Experts.frame_kernel, Cert.KernelIdeal.Experts.frame_ideal, Cert.KernelIdeal.Experts.frame_reference,
  fun m ρ _ => Cert.KernelIdeal.Experts.frame_reference m ρ trivial,
  fun m ρ _ => Cert.Proj.Gen.frame m ρ, fun m ρ _ => Cert.ProjIdeal.Gen.frame m ρ, Cert.ProjIdeal.Proj.frame_reference,
  fun m ρ _ => Cert.OutLn.Gen.frame m ρ, fun m ρ _ => Cert.OutLnIdeal.Gen.frame m ρ, fun m ρ _ => Cert.OutLnIdeal.Gen.frame m ρ,
  Cert.OutLnIdeal.OutLn.frame_reference, fun m ρ _ => Cert.OutLnIdeal.OutLn.frame_reference m ρ trivial,
  fun m ρ _ => Cert.EvenMix.Gen.frame m ρ, fun m ρ _ => Cert.EvenMixIdeal.Gen.frame m ρ, Cert.EvenMixIdeal.EvenMix.frame_reference,
  trivial, Cert.KernelIdeal.Experts.algebraic, trivial, Cert.ProjIdeal.Proj.algebraic, trivial, Cert.OutLnIdeal.OutLn.algebraic, trivial,
  Cert.EvenMixIdeal.EvenMix.algebraic⟩

end Cert.Proof

end
